-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x262144x128 : Shape := ⟨3, ![1, 262144, 128]⟩
abbrev S262144x128 : Shape := ⟨2, ![262144, 128]⟩
abbrev S32x4096 : Shape := ⟨2, ![32, 4096]⟩
abbrev S2x128x128 : Shape := ⟨3, ![2, 128, 128]⟩
abbrev S4096 : Shape := ⟨1, ![4096]⟩
abbrev S_ : Shape := ⟨0, ![]⟩
abbrev S16 : Shape := ⟨1, ![16]⟩
abbrev S1x128x128 : Shape := ⟨3, ![1, 128, 128]⟩
abbrev S128x128 : Shape := ⟨2, ![128, 128]⟩
abbrev S1x1x16 : Shape := ⟨3, ![1, 1, 16]⟩
abbrev S1x4096 : Shape := ⟨2, ![1, 4096]⟩
abbrev S1024x128 : Shape := ⟨2, ![1024, 128]⟩
abbrev S128x32 : Shape := ⟨2, ![128, 32]⟩
abbrev S1024x32 : Shape := ⟨2, ![1024, 32]⟩

abbrev nBuf : Table → Nat
  | .hbm => 5
  | .local .tc .vmem => 2
  | .local .scVector .vmem => 2
  | _ => 0

abbrev bufTy : (tb : Table) → Fin (nBuf tb) → BufTy
  | .hbm, ⟨0, _⟩ => ⟨S1x262144x128, .f32⟩
  | .hbm, ⟨1, _⟩ => ⟨S262144x128, .f32⟩
  | .hbm, ⟨2, _⟩ => ⟨S32x4096, .f32⟩
  | .hbm, ⟨3, _⟩ => ⟨S1024x128, .f32⟩
  | .hbm, ⟨4, _⟩ => ⟨S128x32, .f32⟩
  | .local .tc .vmem, ⟨0, _⟩ => ⟨S1024x128, .f32⟩
  | .local .tc .vmem, ⟨1, _⟩ => ⟨S128x32, .f32⟩
  | .local .scVector .vmem, ⟨0, _⟩ => ⟨S2x128x128, .f32⟩
  | .local .scVector .vmem, ⟨1, _⟩ => ⟨S4096, .f32⟩
  | _, _ => ⟨S1x262144x128, .f32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => true
  | ⟨4, _⟩ => true
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v0_scv : Ref sig .scVector := ⟨.hbm, 1, rfl⟩
abbrev main_v1_scv : Ref sig .scVector := ⟨.hbm, 2, rfl⟩
abbrev cc1_stg0_0 : Ref sig .tc := ⟨.vmem, 0, rfl⟩
abbrev cc1_stg1_0 : Ref sig .tc := ⟨.vmem, 1, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem1_0 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c256_i32 : BitVec 32 := 256#32
  let v4 : BitVec 32 := Scalar.addi c0_i32_0 c256_i32
  let c1_i32 : BitVec 32 := 1#32
  ⟨c0_i32_0, v4, c1_i32⟩
def k0_off1 (k0_t1 : Fin k0_t1_loop.trips) : Fin 1 → Nat :=
  let c0_i32_0 : BitVec 32 := 0#32
  let c1_i32 : BitVec 32 := 1#32
  let arg8 : BitVec 32 := Scf.iv c0_i32_0 c1_i32 k0_t1
  let c16_i32_17 : BitVec 32 := 16#32
  let v33 : BitVec 32 := Scalar.muli arg8 c16_i32_17
  let v34 : Index := Scalar.indexCast v33
  ![v34.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c0_i32_4 : BitVec 32 := 0#32
  let v24 : BitVec 32 := Scalar.addi v2 c0_i32_4
  let c0_i32_8 : BitVec 32 := 0#32
  ![v24.toNat, 0]
@[reducible] def k0_t2_loop : Scf.Loop 32 :=
  let c0_i32_13 : BitVec 32 := 0#32
  let c32_i32_14 : BitVec 32 := 32#32
  let v31 : BitVec 32 := Scalar.addi c0_i32_13 c32_i32_14
  let c1_i32_15 : BitVec 32 := 1#32
  ⟨c0_i32_13, v31, c1_i32_15⟩
def k0_cond1 (k0_t2 : Fin k0_t2_loop.trips) : BitVec 1 :=
  let c2_i32_17 : BitVec 32 := 2#32
  let c0_i32_13 : BitVec 32 := 0#32
  let c1_i32_15 : BitVec 32 := 1#32
  let arg8 : BitVec 32 := Scf.iv c0_i32_13 c1_i32_15 k0_t2
  let v33 : BitVec 32 := Scalar.muli c2_i32_17 arg8
  let c0_i32_18 : BitVec 32 := 0#32
  let v34 : BitVec 32 := Scalar.addi v33 c0_i32_18
  let c1_i32_19 : BitVec 32 := 1#32
  let v35 : BitVec 32 := Scalar.addi v34 c1_i32_19
  let c64_i32_20 : BitVec 32 := 64#32
  let v36 : BitVec 1 := Scalar.cmpi .slt v35 c64_i32_20
  let v37 : BitVec 32 := Scalar.extui v36
  let c0_i32_21 : BitVec 32 := 0#32
  let v38 : BitVec 1 := Scalar.cmpi .ne v37 c0_i32_21
  v38

def k0_off3 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c2_i32_17 : BitVec 32 := 2#32
  let c0_i32_13 : BitVec 32 := 0#32
  let c1_i32_15 : BitVec 32 := 1#32
  let arg8 : BitVec 32 := Scf.iv c0_i32_13 c1_i32_15 k0_t2
  let v33 : BitVec 32 := Scalar.muli c2_i32_17 arg8
  let c0_i32_18 : BitVec 32 := 0#32
  let v34 : BitVec 32 := Scalar.addi v33 c0_i32_18
  let c1_i32_19 : BitVec 32 := 1#32
  let v35 : BitVec 32 := Scalar.addi v34 c1_i32_19
  let c128_i32_53 : BitVec 32 := 128#32
  let v65 : BitVec 32 := Scalar.muli v35 c128_i32_53
  let v66 : BitVec 32 := Scalar.addi v2 v65
  let c0_i32_57 : BitVec 32 := 0#32
  ![v66.toNat, 0]
def k0_off4 (i : grid0.Coords) (k0_t2 : Fin k0_t2_loop.trips) (c0_i32_18 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c2_i32_17 : BitVec 32 := 2#32
  let c0_i32_13 : BitVec 32 := 0#32
  let c1_i32_15 : BitVec 32 := 1#32
  let arg8 : BitVec 32 := Scf.iv c0_i32_13 c1_i32_15 k0_t2
  let v33 : BitVec 32 := Scalar.muli c2_i32_17 arg8
  let v34 : BitVec 32 := Scalar.addi v33 c0_i32_18
  let c128_i32 : BitVec 32 := 128#32
  let v39 : BitVec 32 := Scalar.muli v34 c128_i32
  let v40 : BitVec 32 := Scalar.addi v2 v39
  let c0_i32_25 : BitVec 32 := 0#32
  ![v40.toNat, 0]
@[reducible] def k0_t3_loop : Scf.Loop 32 :=
  let c0_i32_30 : BitVec 32 := 0#32
  let c128_i32_31 : BitVec 32 := 128#32
  let v47 : BitVec 32 := Scalar.addi c0_i32_30 c128_i32_31
  let c1_i32_32 : BitVec 32 := 1#32
  ⟨c0_i32_30, v47, c1_i32_32⟩
def k0_off5 (k0_t3 : Fin k0_t3_loop.trips) : Fin 3 → Nat :=
  let c0_i32_53 : BitVec 32 := 0#32
  let v65 : Index := Scalar.indexCast c0_i32_53
  let c0_i32_30 : BitVec 32 := 0#32
  let c1_i32_32 : BitVec 32 := 1#32
  let arg10 : BitVec 32 := Scf.iv c0_i32_30 c1_i32_32 k0_t3
  let v66 : Index := Scalar.indexCast arg10
  let c0 : Index := 0#32
  ![0, v66.toNat, 0]

def k0_chk1 (v82 : IVec S16 32) : Prop :=
  (∀ a x, ((![v82] : Fin 1 → IVec S16 32) a x).toNat < S4096.size a)
theorem k0_idx1_inb : ∀ (v82 : IVec S16 32) (k0_hw1 : k0_chk1 v82), ∀ a x, ((![v82] : Fin 1 → IVec S16 32) a x).toNat < S4096.size a := fun v82 k0_hw1 => k0_hw1
def k0_off6 (k0_t3 : Fin k0_t3_loop.trips) : Fin 3 → Nat :=
  let c0_i32_58 : BitVec 32 := 0#32
  let v83 : Index := Scalar.indexCast c0_i32_58
  let c0_i32_30 : BitVec 32 := 0#32
  let c1_i32_32 : BitVec 32 := 1#32
  let arg10 : BitVec 32 := Scf.iv c0_i32_30 c1_i32_32 k0_t3
  let v84 : Index := Scalar.indexCast arg10
  let c16 : Index := 16#32
  ![0, v84.toNat, 16]

def k0_chk2 (v100 : IVec S16 32) : Prop :=
  (∀ a x, ((![v100] : Fin 1 → IVec S16 32) a x).toNat < S4096.size a)
theorem k0_idx2_inb : ∀ (v100 : IVec S16 32) (k0_hw2 : k0_chk2 v100), ∀ a x, ((![v100] : Fin 1 → IVec S16 32) a x).toNat < S4096.size a := fun v100 k0_hw2 => k0_hw2
def k0_off7 (k0_t3 : Fin k0_t3_loop.trips) : Fin 3 → Nat :=
  let c0_i32_65 : BitVec 32 := 0#32
  let v101 : Index := Scalar.indexCast c0_i32_65
  let c0_i32_30 : BitVec 32 := 0#32
  let c1_i32_32 : BitVec 32 := 1#32
  let arg10 : BitVec 32 := Scf.iv c0_i32_30 c1_i32_32 k0_t3
  let v102 : Index := Scalar.indexCast arg10
  let c32 : Index := 32#32
  ![0, v102.toNat, 32]

def k0_chk3 (v118 : IVec S16 32) : Prop :=
  (∀ a x, ((![v118] : Fin 1 → IVec S16 32) a x).toNat < S4096.size a)
theorem k0_idx3_inb : ∀ (v118 : IVec S16 32) (k0_hw3 : k0_chk3 v118), ∀ a x, ((![v118] : Fin 1 → IVec S16 32) a x).toNat < S4096.size a := fun v118 k0_hw3 => k0_hw3
def k0_off8 (k0_t3 : Fin k0_t3_loop.trips) : Fin 3 → Nat :=
  let c0_i32_72 : BitVec 32 := 0#32
  let v119 : Index := Scalar.indexCast c0_i32_72
  let c0_i32_30 : BitVec 32 := 0#32
  let c1_i32_32 : BitVec 32 := 1#32
  let arg10 : BitVec 32 := Scf.iv c0_i32_30 c1_i32_32 k0_t3
  let v120 : Index := Scalar.indexCast arg10
  let c48 : Index := 48#32
  ![0, v120.toNat, 48]

def k0_chk4 (v136 : IVec S16 32) : Prop :=
  (∀ a x, ((![v136] : Fin 1 → IVec S16 32) a x).toNat < S4096.size a)
theorem k0_idx4_inb : ∀ (v136 : IVec S16 32) (k0_hw4 : k0_chk4 v136), ∀ a x, ((![v136] : Fin 1 → IVec S16 32) a x).toNat < S4096.size a := fun v136 k0_hw4 => k0_hw4
def k0_off9 (k0_t3 : Fin k0_t3_loop.trips) : Fin 3 → Nat :=
  let c0_i32_79 : BitVec 32 := 0#32
  let v137 : Index := Scalar.indexCast c0_i32_79
  let c0_i32_30 : BitVec 32 := 0#32
  let c1_i32_32 : BitVec 32 := 1#32
  let arg10 : BitVec 32 := Scf.iv c0_i32_30 c1_i32_32 k0_t3
  let v138 : Index := Scalar.indexCast arg10
  let c64 : Index := 64#32
  ![0, v138.toNat, 64]

def k0_chk5 (v154 : IVec S16 32) : Prop :=
  (∀ a x, ((![v154] : Fin 1 → IVec S16 32) a x).toNat < S4096.size a)
theorem k0_idx5_inb : ∀ (v154 : IVec S16 32) (k0_hw5 : k0_chk5 v154), ∀ a x, ((![v154] : Fin 1 → IVec S16 32) a x).toNat < S4096.size a := fun v154 k0_hw5 => k0_hw5
def k0_off10 (k0_t3 : Fin k0_t3_loop.trips) : Fin 3 → Nat :=
  let c0_i32_86 : BitVec 32 := 0#32
  let v155 : Index := Scalar.indexCast c0_i32_86
  let c0_i32_30 : BitVec 32 := 0#32
  let c1_i32_32 : BitVec 32 := 1#32
  let arg10 : BitVec 32 := Scf.iv c0_i32_30 c1_i32_32 k0_t3
  let v156 : Index := Scalar.indexCast arg10
  let c80 : Index := 80#32
  ![0, v156.toNat, 80]

def k0_chk6 (v172 : IVec S16 32) : Prop :=
  (∀ a x, ((![v172] : Fin 1 → IVec S16 32) a x).toNat < S4096.size a)
theorem k0_idx6_inb : ∀ (v172 : IVec S16 32) (k0_hw6 : k0_chk6 v172), ∀ a x, ((![v172] : Fin 1 → IVec S16 32) a x).toNat < S4096.size a := fun v172 k0_hw6 => k0_hw6
def k0_off11 (k0_t3 : Fin k0_t3_loop.trips) : Fin 3 → Nat :=
  let c0_i32_93 : BitVec 32 := 0#32
  let v173 : Index := Scalar.indexCast c0_i32_93
  let c0_i32_30 : BitVec 32 := 0#32
  let c1_i32_32 : BitVec 32 := 1#32
  let arg10 : BitVec 32 := Scf.iv c0_i32_30 c1_i32_32 k0_t3
  let v174 : Index := Scalar.indexCast arg10
  let c96 : Index := 96#32
  ![0, v174.toNat, 96]

def k0_chk7 (v190 : IVec S16 32) : Prop :=
  (∀ a x, ((![v190] : Fin 1 → IVec S16 32) a x).toNat < S4096.size a)
theorem k0_idx7_inb : ∀ (v190 : IVec S16 32) (k0_hw7 : k0_chk7 v190), ∀ a x, ((![v190] : Fin 1 → IVec S16 32) a x).toNat < S4096.size a := fun v190 k0_hw7 => k0_hw7
def k0_off12 (k0_t3 : Fin k0_t3_loop.trips) : Fin 3 → Nat :=
  let c0_i32_100 : BitVec 32 := 0#32
  let v191 : Index := Scalar.indexCast c0_i32_100
  let c0_i32_30 : BitVec 32 := 0#32
  let c1_i32_32 : BitVec 32 := 1#32
  let arg10 : BitVec 32 := Scf.iv c0_i32_30 c1_i32_32 k0_t3
  let v192 : Index := Scalar.indexCast arg10
  let c112 : Index := 112#32
  ![0, v192.toNat, 112]

def k0_chk8 (v208 : IVec S16 32) : Prop :=
  (∀ a x, ((![v208] : Fin 1 → IVec S16 32) a x).toNat < S4096.size a)
theorem k0_idx8_inb : ∀ (v208 : IVec S16 32) (k0_hw8 : k0_chk8 v208), ∀ a x, ((![v208] : Fin 1 → IVec S16 32) a x).toNat < S4096.size a := fun v208 k0_hw8 => k0_hw8
def k0_cond2 (k0_t2 : Fin k0_t2_loop.trips) : BitVec 1 :=
  let c2_i32_34 : BitVec 32 := 2#32
  let c0_i32_13 : BitVec 32 := 0#32
  let c1_i32_15 : BitVec 32 := 1#32
  let arg8 : BitVec 32 := Scf.iv c0_i32_13 c1_i32_15 k0_t2
  let v49 : BitVec 32 := Scalar.muli c2_i32_34 arg8
  let c1_i32_35 : BitVec 32 := 1#32
  let v50 : BitVec 32 := Scalar.addi v49 c1_i32_35
  let c1_i32_36 : BitVec 32 := 1#32
  let v51 : BitVec 32 := Scalar.addi v50 c1_i32_36
  let c64_i32_37 : BitVec 32 := 64#32
  let v52 : BitVec 1 := Scalar.cmpi .slt v51 c64_i32_37
  let v53 : BitVec 32 := Scalar.extui v52
  let c0_i32_38 : BitVec 32 := 0#32
  let v54 : BitVec 1 := Scalar.cmpi .ne v53 c0_i32_38
  v54

def k0_off13 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c2_i32_34 : BitVec 32 := 2#32
  let c0_i32_13 : BitVec 32 := 0#32
  let c1_i32_15 : BitVec 32 := 1#32
  let arg8 : BitVec 32 := Scf.iv c0_i32_13 c1_i32_15 k0_t2
  let v49 : BitVec 32 := Scalar.muli c2_i32_34 arg8
  let c1_i32_35 : BitVec 32 := 1#32
  let v50 : BitVec 32 := Scalar.addi v49 c1_i32_35
  let c1_i32_36 : BitVec 32 := 1#32
  let v51 : BitVec 32 := Scalar.addi v50 c1_i32_36
  let c128_i32_53 : BitVec 32 := 128#32
  let v65 : BitVec 32 := Scalar.muli v51 c128_i32_53
  let v66 : BitVec 32 := Scalar.addi v2 v65
  let c0_i32_57 : BitVec 32 := 0#32
  ![v66.toNat, 0]
@[reducible] def k0_t4_loop : Scf.Loop 32 :=
  let c0_i32_48 : BitVec 32 := 0#32
  let c128_i32_49 : BitVec 32 := 128#32
  let v63 : BitVec 32 := Scalar.addi c0_i32_48 c128_i32_49
  let c1_i32_50 : BitVec 32 := 1#32
  ⟨c0_i32_48, v63, c1_i32_50⟩
def k0_off14 (k0_t4 : Fin k0_t4_loop.trips) : Fin 3 → Nat :=
  let c1_i32_53 : BitVec 32 := 1#32
  let v65 : Index := Scalar.indexCast c1_i32_53
  let c0_i32_48 : BitVec 32 := 0#32
  let c1_i32_50 : BitVec 32 := 1#32
  let arg10 : BitVec 32 := Scf.iv c0_i32_48 c1_i32_50 k0_t4
  let v66 : Index := Scalar.indexCast arg10
  let c0 : Index := 0#32
  ![1, v66.toNat, 0]

def k0_chk9 (v82 : IVec S16 32) : Prop :=
  (∀ a x, ((![v82] : Fin 1 → IVec S16 32) a x).toNat < S4096.size a)
theorem k0_idx9_inb : ∀ (v82 : IVec S16 32) (k0_hw9 : k0_chk9 v82), ∀ a x, ((![v82] : Fin 1 → IVec S16 32) a x).toNat < S4096.size a := fun v82 k0_hw9 => k0_hw9
def k0_off15 (k0_t4 : Fin k0_t4_loop.trips) : Fin 3 → Nat :=
  let c1_i32_58 : BitVec 32 := 1#32
  let v83 : Index := Scalar.indexCast c1_i32_58
  let c0_i32_48 : BitVec 32 := 0#32
  let c1_i32_50 : BitVec 32 := 1#32
  let arg10 : BitVec 32 := Scf.iv c0_i32_48 c1_i32_50 k0_t4
  let v84 : Index := Scalar.indexCast arg10
  let c16 : Index := 16#32
  ![1, v84.toNat, 16]

def k0_chk10 (v100 : IVec S16 32) : Prop :=
  (∀ a x, ((![v100] : Fin 1 → IVec S16 32) a x).toNat < S4096.size a)
theorem k0_idx10_inb : ∀ (v100 : IVec S16 32) (k0_hw10 : k0_chk10 v100), ∀ a x, ((![v100] : Fin 1 → IVec S16 32) a x).toNat < S4096.size a := fun v100 k0_hw10 => k0_hw10
def k0_off16 (k0_t4 : Fin k0_t4_loop.trips) : Fin 3 → Nat :=
  let c1_i32_65 : BitVec 32 := 1#32
  let v101 : Index := Scalar.indexCast c1_i32_65
  let c0_i32_48 : BitVec 32 := 0#32
  let c1_i32_50 : BitVec 32 := 1#32
  let arg10 : BitVec 32 := Scf.iv c0_i32_48 c1_i32_50 k0_t4
  let v102 : Index := Scalar.indexCast arg10
  let c32 : Index := 32#32
  ![1, v102.toNat, 32]

def k0_chk11 (v118 : IVec S16 32) : Prop :=
  (∀ a x, ((![v118] : Fin 1 → IVec S16 32) a x).toNat < S4096.size a)
theorem k0_idx11_inb : ∀ (v118 : IVec S16 32) (k0_hw11 : k0_chk11 v118), ∀ a x, ((![v118] : Fin 1 → IVec S16 32) a x).toNat < S4096.size a := fun v118 k0_hw11 => k0_hw11
def k0_off17 (k0_t4 : Fin k0_t4_loop.trips) : Fin 3 → Nat :=
  let c1_i32_72 : BitVec 32 := 1#32
  let v119 : Index := Scalar.indexCast c1_i32_72
  let c0_i32_48 : BitVec 32 := 0#32
  let c1_i32_50 : BitVec 32 := 1#32
  let arg10 : BitVec 32 := Scf.iv c0_i32_48 c1_i32_50 k0_t4
  let v120 : Index := Scalar.indexCast arg10
  let c48 : Index := 48#32
  ![1, v120.toNat, 48]

def k0_chk12 (v136 : IVec S16 32) : Prop :=
  (∀ a x, ((![v136] : Fin 1 → IVec S16 32) a x).toNat < S4096.size a)
theorem k0_idx12_inb : ∀ (v136 : IVec S16 32) (k0_hw12 : k0_chk12 v136), ∀ a x, ((![v136] : Fin 1 → IVec S16 32) a x).toNat < S4096.size a := fun v136 k0_hw12 => k0_hw12
def k0_off18 (k0_t4 : Fin k0_t4_loop.trips) : Fin 3 → Nat :=
  let c1_i32_79 : BitVec 32 := 1#32
  let v137 : Index := Scalar.indexCast c1_i32_79
  let c0_i32_48 : BitVec 32 := 0#32
  let c1_i32_50 : BitVec 32 := 1#32
  let arg10 : BitVec 32 := Scf.iv c0_i32_48 c1_i32_50 k0_t4
  let v138 : Index := Scalar.indexCast arg10
  let c64 : Index := 64#32
  ![1, v138.toNat, 64]

def k0_chk13 (v154 : IVec S16 32) : Prop :=
  (∀ a x, ((![v154] : Fin 1 → IVec S16 32) a x).toNat < S4096.size a)
theorem k0_idx13_inb : ∀ (v154 : IVec S16 32) (k0_hw13 : k0_chk13 v154), ∀ a x, ((![v154] : Fin 1 → IVec S16 32) a x).toNat < S4096.size a := fun v154 k0_hw13 => k0_hw13
def k0_off19 (k0_t4 : Fin k0_t4_loop.trips) : Fin 3 → Nat :=
  let c1_i32_86 : BitVec 32 := 1#32
  let v155 : Index := Scalar.indexCast c1_i32_86
  let c0_i32_48 : BitVec 32 := 0#32
  let c1_i32_50 : BitVec 32 := 1#32
  let arg10 : BitVec 32 := Scf.iv c0_i32_48 c1_i32_50 k0_t4
  let v156 : Index := Scalar.indexCast arg10
  let c80 : Index := 80#32
  ![1, v156.toNat, 80]

def k0_chk14 (v172 : IVec S16 32) : Prop :=
  (∀ a x, ((![v172] : Fin 1 → IVec S16 32) a x).toNat < S4096.size a)
theorem k0_idx14_inb : ∀ (v172 : IVec S16 32) (k0_hw14 : k0_chk14 v172), ∀ a x, ((![v172] : Fin 1 → IVec S16 32) a x).toNat < S4096.size a := fun v172 k0_hw14 => k0_hw14
def k0_off20 (k0_t4 : Fin k0_t4_loop.trips) : Fin 3 → Nat :=
  let c1_i32_93 : BitVec 32 := 1#32
  let v173 : Index := Scalar.indexCast c1_i32_93
  let c0_i32_48 : BitVec 32 := 0#32
  let c1_i32_50 : BitVec 32 := 1#32
  let arg10 : BitVec 32 := Scf.iv c0_i32_48 c1_i32_50 k0_t4
  let v174 : Index := Scalar.indexCast arg10
  let c96 : Index := 96#32
  ![1, v174.toNat, 96]

def k0_chk15 (v190 : IVec S16 32) : Prop :=
  (∀ a x, ((![v190] : Fin 1 → IVec S16 32) a x).toNat < S4096.size a)
theorem k0_idx15_inb : ∀ (v190 : IVec S16 32) (k0_hw15 : k0_chk15 v190), ∀ a x, ((![v190] : Fin 1 → IVec S16 32) a x).toNat < S4096.size a := fun v190 k0_hw15 => k0_hw15
def k0_off21 (k0_t4 : Fin k0_t4_loop.trips) : Fin 3 → Nat :=
  let c1_i32_100 : BitVec 32 := 1#32
  let v191 : Index := Scalar.indexCast c1_i32_100
  let c0_i32_48 : BitVec 32 := 0#32
  let c1_i32_50 : BitVec 32 := 1#32
  let arg10 : BitVec 32 := Scf.iv c0_i32_48 c1_i32_50 k0_t4
  let v192 : Index := Scalar.indexCast arg10
  let c112 : Index := 112#32
  ![1, v192.toNat, 112]

def k0_chk16 (v208 : IVec S16 32) : Prop :=
  (∀ a x, ((![v208] : Fin 1 → IVec S16 32) a x).toNat < S4096.size a)
theorem k0_idx16_inb : ∀ (v208 : IVec S16 32) (k0_hw16 : k0_chk16 v208), ∀ a x, ((![v208] : Fin 1 → IVec S16 32) a x).toNat < S4096.size a := fun v208 k0_hw16 => k0_hw16
def k0_off22 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_17_r0 : BitVec 32 := 0#32
  ![v1.toNat, 0]
abbrev grid1 : Pipeline.Grid := .none

abbrev stage1_0 : Fin 1 → Memref sig .tc .vmem S1024x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S128x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1x262144x128 : Shape := ⟨3, ![1, 262144, 128]⟩
abbrev S_ : Shape := ⟨0, ![]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩
abbrev S1x4096 : Shape := ⟨2, ![1, 4096]⟩
abbrev S33554432 : Shape := ⟨1, ![33554432]⟩
abbrev S33554432x1 : Shape := ⟨2, ![33554432, 1]⟩
abbrev S33554432x2 : Shape := ⟨2, ![33554432, 2]⟩
abbrev S1x128x32 : Shape := ⟨3, ![1, 128, 32]⟩
abbrev S128x32 : Shape := ⟨2, ![128, 32]⟩

abbrev nBuf : Space → Nat
  | .hbm => 61
  | .vmem => 0
  | .smem => 0
  | _ => 0

abbrev bufTy : (tb : Table) → Fin (tcTables nBuf tb) → BufTy
  | .hbm, ⟨0, _⟩ => ⟨S1x262144x128, .f32⟩
  | .hbm, ⟨1, _⟩ => ⟨S1x262144x128, .f32⟩
  | .hbm, ⟨2, _⟩ => ⟨S1x262144x128, .f32⟩
  | .hbm, ⟨3, _⟩ => ⟨S_, .f32⟩
  | .hbm, ⟨4, _⟩ => ⟨S1x262144x128, .f32⟩
  | .hbm, ⟨5, _⟩ => ⟨S1x262144x128, .f32⟩
  | .hbm, ⟨6, _⟩ => ⟨S_, .f32⟩
  | .hbm, ⟨7, _⟩ => ⟨S1x262144x128, .f32⟩
  | .hbm, ⟨8, _⟩ => ⟨S1x262144x128, .f32⟩
  | .hbm, ⟨9, _⟩ => ⟨S_, .f32⟩
  | .hbm, ⟨10, _⟩ => ⟨S1x262144x128, .f32⟩
  | .hbm, ⟨11, _⟩ => ⟨S1x262144x128, .f32⟩
  | .hbm, ⟨12, _⟩ => ⟨S1x262144x128, .f32⟩
  | .hbm, ⟨13, _⟩ => ⟨S1x262144x128, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S1x262144x128, .i32⟩
  | .hbm, ⟨18, _⟩ => ⟨S1x262144x128, .i32⟩
  | .hbm, ⟨19, _⟩ => ⟨S_, .i32⟩
  | .hbm, ⟨20, _⟩ => ⟨S1x262144x128, .i32⟩
  | .hbm, ⟨21, _⟩ => ⟨S1x262144x128, .i32⟩
  | .hbm, ⟨22, _⟩ => ⟨S128, .i32⟩
  | .hbm, ⟨23, _⟩ => ⟨S1x1x128, .i32⟩
  | .hbm, ⟨24, _⟩ => ⟨S_, .i32⟩
  | .hbm, ⟨25, _⟩ => ⟨S1x1x128, .i32⟩
  | .hbm, ⟨26, _⟩ => ⟨S1x1x128, .i32⟩
  | .hbm, ⟨27, _⟩ => ⟨S1x262144x128, .i32⟩
  | .hbm, ⟨28, _⟩ => ⟨S1x262144x128, .i32⟩
  | .hbm, ⟨29, _⟩ => ⟨S1, .i32⟩
  | .hbm, ⟨30, _⟩ => ⟨S1x1x1, .i32⟩
  | .hbm, ⟨31, _⟩ => ⟨S1x262144x128, .i32⟩
  | .hbm, ⟨32, _⟩ => ⟨S_, .f32⟩
  | .hbm, ⟨33, _⟩ => ⟨S1x4096, .f32⟩
  | .hbm, ⟨34, _⟩ => ⟨S33554432, .i32⟩
  | .hbm, ⟨35, _⟩ => ⟨S33554432, .i32⟩
  | .hbm, ⟨36, _⟩ => ⟨S_, .i32⟩
  | .hbm, ⟨37, _⟩ => ⟨S33554432, .i32⟩
  | .hbm, ⟨38, _⟩ => ⟨S33554432, .i1⟩
  | .hbm, ⟨39, _⟩ => ⟨S_, .i32⟩
  | .hbm, ⟨40, _⟩ => ⟨S33554432, .i32⟩
  | .hbm, ⟨41, _⟩ => ⟨S33554432, .i32⟩
  | .hbm, ⟨42, _⟩ => ⟨S33554432, .i32⟩
  | .hbm, ⟨43, _⟩ => ⟨S_, .i32⟩
  | .hbm, ⟨44, _⟩ => ⟨S33554432, .i32⟩
  | .hbm, ⟨45, _⟩ => ⟨S33554432, .i1⟩
  | .hbm, ⟨46, _⟩ => ⟨S_, .i32⟩
  | .hbm, ⟨47, _⟩ => ⟨S33554432, .i32⟩
  | .hbm, ⟨48, _⟩ => ⟨S33554432, .i32⟩
  | .hbm, ⟨49, _⟩ => ⟨S33554432, .i32⟩
  | .hbm, ⟨50, _⟩ => ⟨S33554432x1, .i32⟩
  | .hbm, ⟨51, _⟩ => ⟨S33554432x1, .i32⟩
  | .hbm, ⟨52, _⟩ => ⟨S33554432x2, .i32⟩
  | .hbm, ⟨53, _⟩ => ⟨S_, .f32⟩
  | .hbm, ⟨54, _⟩ => ⟨S33554432, .f32⟩
  | .hbm, ⟨55, _⟩ => ⟨S1x4096, .f32⟩
  | .hbm, ⟨56, _⟩ => ⟨S1x128x32, .f32⟩
  | .hbm, ⟨57, _⟩ => ⟨S_, .f32⟩
  | .hbm, ⟨58, _⟩ => ⟨S1x128x32, .f32⟩
  | .hbm, ⟨59, _⟩ => ⟨S1x128x32, .f32⟩
  | .hbm, ⟨60, _⟩ => ⟨S128x32, .f32⟩
  | _, _ => ⟨S1x262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_c_2 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_7 : Ref sig .tc := ⟨.hbm, 43, rfl⟩
abbrev main_v28 : Ref sig .tc := ⟨.hbm, 44, rfl⟩
abbrev main_v29 : Ref sig .tc := ⟨.hbm, 45, rfl⟩
abbrev main_c_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_9 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_10 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]
-- ==== Proof.HistI.Value.lean ====
/-
  What the histogram kernel's tile computes, as plain functions: the bin of one float (`binw`), the index vector of one group of sixteen
  features (`idxV`), a histogram after the first `n` groups of one row of the input were counted (`rowUpTo`), and after `n` rows (`histN`).
  The scatter of one group (`storeIdx`) is one step of `rowUpTo`, because its sixteen indices are distinct.
-/
module

public import proofs.«01_k».proof.Defs
public import proofs.«01_k».proof.Proof.Gen.KernelIdeal
public import proofs.«01_k».proof.Proof.Gen.KernelIdeal.Skeleton
public import Idealize.ShloMosaic.Lib.ValueIdxCore
public import Idealize.ShloMosaic.Lib.Pipeline.Value

@[expose] public section

noncomputable section

namespace Cert.Proof.HistI

open Cert.KernelIdeal Cert.KernelIdeal.Gen
open Idealize.ShloMosaic

variable {F : FTy → Type} [FloatOps F]

/-! ## The bin of one float -/

/-- The bin: 32 · sigmoid rounded toward zero, held between 0 and 31. -/
def binw (v : F .f32) : BitVec 32 :=
  IntOp.minsi 31#32 (IntOp.maxsi 0#32 (FloatOps.fptosi 32 (FloatOps.divf (Scalar.ofBits .f32 0x42000000#32)
    (FloatOps.addf (Scalar.ofBits .f32 0x3F800000#32) (FloatOps.exp (FloatOps.subf (Scalar.ofBits .f32 0x00000000#32) v))))))

theorem clip_lt (a : BitVec 32) : (IntOp.minsi 31#32 (IntOp.maxsi 0#32 a)).toNat < 32 := by
  unfold IntOp.minsi IntOp.maxsi
  split <;> split <;> first | decide | skip
  all_goals (simp only [BitVec.slt_eq_decide, decide_eq_true_eq, BitVec.toInt_eq_toNat_cond] at *)
  all_goals (have := a.isLt; simp at *; first | omega | (split at * <;> omega))

theorem binw_lt (v : F .f32) : (binw v).toNat < 32 := clip_lt _

/-- The value a histogram counts by. -/
def oneF : F .f32 := Scalar.ofBits .f32 0x3F800000#32
/-- The value a histogram starts at. -/
def zeroF : F .f32 := Scalar.ofBits .f32 0x00000000#32

/-! ## One group of sixteen features -/

/-- A group's lane numbers: `o`, `o + 1`, …, `o + 15`. -/
def lane (o : BitVec 32) : IVec S16 32 := fun x => IntOp.addi (BitVec.ofNat 32 (x 0).val) o

/-- A group's histogram words: `128 · bin + lane`. -/
def idxV (l : IVec S16 32) (ld : Vec F S1x1x16 .f32) : IVec S16 32 :=
  fun x => IntOp.addi (IntOp.shli .vector (binw (shapeCast S16 ld shapeCasts_S1x1x16_S16 x)) 7#32) (l x)

theorem shl_add_toNat (b o : BitVec 32) (hb : b.toNat < 32) (ho : o.toNat < 128) :
    (IntOp.addi (IntOp.shli .vector b 7#32) o).toNat = 128 * b.toNat + o.toNat := by
  unfold IntOp.addi IntOp.shli
  rw [if_pos (by decide), BitVec.toNat_add, BitVec.shiftLeft_eq', BitVec.toNat_shiftLeft]
  simp only [BitVec.toNat_ofNat, Nat.shiftLeft_eq]
  rw [show 7 % 2 ^ 32 = 7 from rfl]
  omega

theorem lane_toNat (j : ℕ) (hj : j < 8) (x : S16.Idx) : (lane (BitVec.ofNat 32 (16 * j)) x).toNat = 16 * j + (x 0).val := by
  have hx : (x 0).val < 16 := (x 0).isLt
  unfold lane IntOp.addi
  rw [BitVec.toNat_add, BitVec.toNat_ofNat, BitVec.toNat_ofNat]; omega

theorem idxV_toNat (j : ℕ) (hj : j < 8) (ld : Vec F S1x1x16 .f32) (x : S16.Idx) :
    (idxV (lane (BitVec.ofNat 32 (16 * j))) ld x).toNat
      = 128 * (binw (shapeCast S16 ld shapeCasts_S1x1x16_S16 x)).toNat + (16 * j + (x 0).val) := by
  have hx : (x 0).val < 16 := (x 0).isLt
  unfold idxV
  rw [shl_add_toNat _ _ (binw_lt _) (by rw [lane_toNat j hj]; omega), lane_toNat j hj]

/-- Every word is inside the histogram. -/
theorem idxV_lt (j : ℕ) (hj : j < 8) (ld : Vec F S1x1x16 .f32) :
    ∀ a x, ((![idxV (lane (BitVec.ofNat 32 (16 * j))) ld] : Fin 1 → IVec S16 32) a x).toNat < S4096.size a := by
  intro a x
  obtain rfl : a = 0 := Subsingleton.elim _ _
  have hx : (x 0).val < 16 := (x 0).isLt
  show (idxV (lane (BitVec.ofNat 32 (16 * j))) ld x).toNat < 4096
  have := binw_lt (shapeCast S16 ld shapeCasts_S1x1x16_S16 x)
  rw [idxV_toNat j hj]; omega

/-! ## A row of 128 features, group by group -/

/-- The position in a histogram. -/
abbrev feat (p : S4096.Idx) : Fin 128 := ⟨(p 0).val % 128, Nat.mod_lt _ (by decide)⟩
abbrev binOf (p : S4096.Idx) : ℕ := (p 0).val / 128

/-- The histogram `h` after the first `n` groups of `row` were counted. -/
def rowUpTo (row : Fin 128 → F .f32) (n : ℕ) (h : S4096.Idx → F .f32) : S4096.Idx → F .f32 := fun p =>
  if (feat p).val / 16 < n ∧ (binw (row (feat p))).toNat = binOf p then FloatOps.idxAddf (h p) oneF else h p

theorem rowUpTo_zero (row : Fin 128 → F .f32) (h : S4096.Idx → F .f32) : rowUpTo row 0 h = h := by
  funext p; unfold rowUpTo; rw [if_neg (by omega)]

/-- The histogram after the whole row. -/
abbrev rowStep (row : Fin 128 → F .f32) (h : S4096.Idx → F .f32) : S4096.Idx → F .f32 := rowUpTo row 8 h

/-- Writing at distinct places one after another: each place named gets one addition. -/
theorem foldl_at {A I : Type} (op : A → A) (stp : (S4096.Idx → A) → I → S4096.Idx → A) (ix : I → S4096.Idx) (hix : Function.Injective ix)
    (hs : ∀ g k q, stp g k q = if ix k = q then op (g (ix k)) else g q) (p : S4096.Idx) :
    ∀ (l : List I) (_ : l.Nodup) (f : S4096.Idx → A), (l.foldl stp f) p = if ∃ k ∈ l, ix k = p then op (f p) else f p
  | [], _, f => by simp
  | k :: l, hl, f => by
    have hk := (List.nodup_cons.mp hl).1
    rw [List.foldl_cons, foldl_at op stp ix hix hs p l (List.nodup_cons.mp hl).2, hs]
    by_cases h1 : ix k = p
    · have h2 : ¬ ∃ k' ∈ l, ix k' = p := fun ⟨k', hm, hp⟩ => hk (hix (hp.trans h1.symm) ▸ hm)
      rw [if_neg h2, if_pos h1, if_pos ⟨k, List.mem_cons_self, h1⟩, h1]
    · rw [if_neg h1]
      by_cases h2 : ∃ k' ∈ l, ix k' = p
      · rw [if_pos h2, if_pos (by obtain ⟨k', hm, hp⟩ := h2; exact ⟨k', List.mem_cons_of_mem _ hm, hp⟩)]
      · rw [if_neg h2, if_neg]
        rintro ⟨k', hm, hp⟩
        rcases List.mem_cons.mp hm with rfl | hm
        · exact h1 hp
        · exact h2 ⟨k', hm, hp⟩

/-- One group's scatter. -/
theorem storeIdx_group (row : Fin 128 → F .f32) (j : ℕ) (hj : j < 8) (h : S4096.Idx → F .f32) (ld : Vec F S1x1x16 .f32)
    (hld : ∀ x : S16.Idx, shapeCast S16 ld shapeCasts_S1x1x16_S16 x = row ⟨16 * j + (x 0).val, by have : (x 0).val < 16 := (x 0).isLt; omega⟩)
    (hb : ∀ a x, ((![idxV (lane (BitVec.ofNat 32 (16 * j))) ld] : Fin 1 → IVec S16 32) a x).toNat < S4096.size a) :
    storeIdx (F := F) (s := S4096) (e := .f32) (d := ![16]) (rowUpTo row j h) ![idxV (lane (BitVec.ofNat 32 (16 * j))) ld] (fun _ => oneF) (fun _ => 1#1) true hb
      = rowUpTo row (j + 1) h := by
  have hv : ∀ k : Fin 16, (idxV (lane (BitVec.ofNat 32 (16 * j))) ld (Shape.ofLane (d := ![16]) k)).toNat
      = 128 * (binw (row ⟨16 * j + k.val, by omega⟩)).toNat + (16 * j + k.val) :=
    fun k => (idxV_toNat j hj ld _).trans (by rw [hld]; rfl)
  funext p
  unfold storeIdx
  have hinj : Function.Injective (fun k : Fin 16 => idxAt (s := S4096) (t := S16) ![idxV (lane (BitVec.ofNat 32 (16 * j))) ld] hb (Shape.ofLane (d := ![16]) k)) := by
    intro k k' e
    have e0 : (idxV (lane (BitVec.ofNat 32 (16 * j))) ld (Shape.ofLane (d := ![16]) k)).toNat
      = (idxV (lane (BitVec.ofNat 32 (16 * j))) ld (Shape.ofLane (d := ![16]) k')).toNat := congrArg (fun q : S4096.Idx => (q 0).val) e
    rw [hv, hv] at e0
    exact Fin.ext (by have := k.isLt; have := k'.isLt; omega)
  refine (foldl_at (fun a : F .f32 => FloatOps.idxAddf a oneF) _ _ hinj ?_ p (List.finRange 16) (List.nodup_finRange 16) (rowUpTo row j h)).trans ?_
  · intro g k q
    refine (congrFun (if_pos (show (1#1 : BitVec 1) = 1 from rfl)) q).trans ?_
    have e : (∀ a, (q a).val = (idxAt (s := S4096) (t := S16) ![idxV (lane (BitVec.ofNat 32 (16 * j))) ld] hb (Shape.ofLane (d := ![16]) k) a).val)
        ↔ idxAt (s := S4096) (t := S16) ![idxV (lane (BitVec.ofNat 32 (16 * j))) ld] hb (Shape.ofLane (d := ![16]) k) = q :=
      ⟨fun h => funext fun a => Fin.ext (h a).symm, fun h a => by rw [h]⟩
    by_cases hq : idxAt (s := S4096) (t := S16) ![idxV (lane (BitVec.ofNat 32 (16 * j))) ld] hb (Shape.ofLane (d := ![16]) k) = q
    · exact (if_pos (e.mpr hq)).trans (if_pos hq).symm
    · exact (if_neg (fun h => hq (e.mp h))).trans (if_neg hq).symm
  have hp : (p 0).val < 4096 := (p 0).isLt
  have key : (∃ k ∈ List.finRange 16, idxAt (s := S4096) (t := S16) ![idxV (lane (BitVec.ofNat 32 (16 * j))) ld] hb (Shape.ofLane (d := ![16]) k) = p)
      ↔ (feat p).val / 16 = j ∧ (binw (row (feat p))).toNat = binOf p := by
    constructor
    · rintro ⟨k, -, e⟩
      have e0 : (idxV (lane (BitVec.ofNat 32 (16 * j))) ld (Shape.ofLane (d := ![16]) k)).toNat = (p 0).val := congrArg (fun q : S4096.Idx => (q 0).val) e
      rw [hv] at e0
      have hk := k.isLt
      have hf : (feat p) = ⟨16 * j + k.val, by omega⟩ := by
        apply Fin.ext; show (p 0).val % 128 = 16 * j + k.val; omega
      rw [hf]
      exact ⟨show (16 * j + k.val) / 16 = j by omega, show _ = (p 0).val / 128 by omega⟩
    · rintro ⟨h1, h2⟩
      have h1' : (p 0).val % 128 / 16 = j := h1
      have h2' : _ = (p 0).val / 128 := h2
      have hm : (p 0).val % 16 < 16 := Nat.mod_lt _ (by decide)
      refine ⟨⟨(p 0).val % 16, hm⟩, List.mem_finRange _, ?_⟩
      funext a
      obtain rfl : a = 0 := Subsingleton.elim _ _
      apply Fin.ext
      show (idxV (lane (BitVec.ofNat 32 (16 * j))) ld (Shape.ofLane (d := ![16]) ⟨(p 0).val % 16, hm⟩)).toNat = (p 0).val
      refine (hv ⟨(p 0).val % 16, hm⟩).trans ?_
      have hf : (⟨16 * j + (p 0).val % 16, by omega⟩ : Fin 128) = feat p := by
        apply Fin.ext; show 16 * j + _ = (p 0).val % 128; omega
      show 128 * (binw (row ⟨16 * j + (p 0).val % 16, by omega⟩)).toNat + (16 * j + (p 0).val % 16) = _
      rw [hf, h2']; omega
  unfold rowUpTo
  by_cases hk : (feat p).val / 16 = j ∧ (binw (row (feat p))).toNat = binOf p
  · rw [if_pos (key.mpr hk), if_neg (by omega), if_pos ⟨by omega, hk.2⟩]
  · rw [if_neg (fun h => hk (key.mp h))]
    by_cases h3 : (feat p).val / 16 < j ∧ (binw (row (feat p))).toNat = binOf p
    · rw [if_pos h3, if_pos ⟨by omega, h3.2⟩]
    · rw [if_neg h3, if_neg]
      rintro ⟨h4, h5⟩
      rcases Nat.lt_succ_iff_lt_or_eq.mp h4 with h6 | h6
      · exact h3 ⟨h6, h5⟩
      · exact hk ⟨h6, h5⟩

/-! ## The rows of one tile -/

/-- The histogram of rows `0 … n-1` of `rows`, counted from zero. -/
def histN (rows : ℕ → Fin 128 → F .f32) : ℕ → S4096.Idx → F .f32
  | 0 => fun _ => zeroF
  | n + 1 => rowStep (rows n) (histN rows n)

/-! ## The kernel's payloads -/

theorem pay1_eq : k0_pay1 (F := F) = idxV := rfl
theorem pay2_eq : k0_pay2 (F := F) = idxV := rfl
theorem pay3_eq : k0_pay3 (F := F) = idxV := rfl
theorem pay4_eq : k0_pay4 (F := F) = idxV := rfl
theorem pay5_eq : k0_pay5 (F := F) = idxV := rfl
theorem pay6_eq : k0_pay6 (F := F) = idxV := rfl
theorem pay7_eq : k0_pay7 (F := F) = idxV := rfl
theorem pay8_eq : k0_pay8 (F := F) = idxV := rfl
theorem pay9_eq : k0_pay9 (F := F) = idxV := rfl
theorem pay10_eq : k0_pay10 (F := F) = idxV := rfl
theorem pay11_eq : k0_pay11 (F := F) = idxV := rfl
theorem pay12_eq : k0_pay12 (F := F) = idxV := rfl
theorem pay13_eq : k0_pay13 (F := F) = idxV := rfl
theorem pay14_eq : k0_pay14 (F := F) = idxV := rfl
theorem pay15_eq : k0_pay15 (F := F) = idxV := rfl
theorem pay16_eq : k0_pay16 (F := F) = idxV := rfl
theorem pay17_eq : k0_pay17 (F := F) = fun _ => zeroF := rfl
theorem pay18_eq : k0_pay18 (F := F) = fun _ => oneF := rfl

theorem lane_iota (o : BitVec 32) : (addi (iota .scVector S16 32 [0] iota_S16_d0_w32_scVector) (broadcast S16 o) : IVec S16 32) = lane o := by
  funext x
  show IntOp.addi (BitVec.ofNat 32 (0 * 16 + (x 0).val)) o = IntOp.addi (BitVec.ofNat 32 (x 0).val) o
  rw [Nat.zero_mul, Nat.zero_add]

theorem pay19_eq : k0_pay19 = lane 0#32 := lane_iota _
theorem pay20_eq : k0_pay20 = lane 16#32 := lane_iota _
theorem pay21_eq : k0_pay21 = lane 32#32 := lane_iota _
theorem pay22_eq : k0_pay22 = lane 48#32 := lane_iota _
theorem pay23_eq : k0_pay23 = lane 64#32 := lane_iota _
theorem pay24_eq : k0_pay24 = lane 80#32 := lane_iota _
theorem pay25_eq : k0_pay25 = lane 96#32 := lane_iota _
theorem pay26_eq : k0_pay26 = lane 112#32 := lane_iota _

end Cert.Proof.HistI

end
-- ==== Proof.HistI.Setup.lean ====
/-
  The set-up of the histogram kernel's proof: the program as the launch theorem sees it, the resource algebra (the handshakes' rounds, the
  rounds of the TensorCore's pipeline, the counters of the tiles' transfers), the buffers, and how a tile's memrefs address them.
-/
module

public import proofs.«01_k».proof.Proof.HistI.Value
public import Idealize.ShloMosaic.Lib.SparseCore.Quiescent
public import Idealize.ShloMosaic.Lib.SparseCore.Ops
public import Idealize.ShloMosaic.Lib.SparseCore.Scatter
public import Idealize.ShloMosaic.Lib.StableHlo.Run
public import Idealize.ShloMosaic.Lib.Pipeline.Kit
public import Idealize.ShloMosaic.Lib.Tactic

@[expose] public section

noncomputable section

namespace Cert.Proof.HistI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL

/-- The transfers' counters, the last factor, found by instance. -/
abbrev EC : UEmb Counters (MT nD τ sig (HIx 1) (Elt F) ℕ UU ℕ) := countersEmb

/-! ## The buffers -/

-- the kernel's memrefs, spelt as the body table passes them
local notation "xW" => (Memref.whole Cert.KernelIdeal.main_v0_scv : Memref Cert.KernelIdeal.sig Kind.scVector Space.hbm Cert.KernelIdeal.S262144x128 EltTy.f32)
local notation "oW" => (Memref.whole Cert.KernelIdeal.main_v1_scv : Memref Cert.KernelIdeal.sig Kind.scVector Space.hbm Cert.KernelIdeal.S32x4096 EltTy.f32)
local notation "bW" => (Memref.whole Cert.KernelIdeal.cc0_scratch0 : Memref Cert.KernelIdeal.sig Kind.scVector Space.vmem Cert.KernelIdeal.S2x128x128 EltTy.f32)
local notation "hW" => (Memref.whole Cert.KernelIdeal.cc0_scratch1 : Memref Cert.KernelIdeal.sig Kind.scVector Space.vmem Cert.KernelIdeal.S4096 EltTy.f32)

abbrev aLoc (d : Dev nD) : Loc nD τ sig := (SparseCore.T d).loc main_arg0
abbrev xLoc (d : Dev nD) : Loc nD τ sig := (SparseCore.T d).loc main_v0
abbrev oLoc (d : Dev nD) : Loc nD τ sig := (SparseCore.T d).loc main_v1
abbrev pLoc (d : Dev nD) : Loc nD τ sig := (SparseCore.T d).loc main_v2
abbrev rLoc (d : Dev nD) : Loc nD τ sig := (SparseCore.T d).loc main_v3

section Tile

variable (d : Dev nD) (L : grid0.Coords)

abbrev cV : Fin τ.nSC := (L 0).castLE hcore0
abbrev jV : Fin τ.nSub := (L 1).castLE hsub0
abbrev thr : Thread nD τ := V d (cV L) (jV L)
abbrev bLoc : Loc nD τ sig := (thr d L).loc cc0_scratch0
abbrev hLoc : Loc nD τ sig := (thr d L).loc cc0_scratch1

/-- A row of the two-slot row buffer, and of the input. -/
def bix (s : ℕ) (hs : s < 2) (t c : Fin 128) : S2x128x128.Idx := fun | 0 => ⟨s, hs⟩ | 1 => t | 2 => c
def xix (r : ℕ) (hr : r < 262144) (c : Fin 128) : S262144x128.Idx := fun | 0 => ⟨r, hr⟩ | 1 => c

/-- The elements of one slot of the row buffer. -/
def slotSet (s : ℕ) : Finset S2x128x128.Idx := Finset.univ.filter fun p => (p 0).val = s

theorem mem_slotSet {s : ℕ} {p : S2x128x128.Idx} : p ∈ slotSet s ↔ (p 0).val = s := by simp [slotSet]

abbrev slot0 : Memref sig .scVector .vmem S128x128 .f32 :=
  (Memref.slice (bW) (Rect.unit (s := S2x128x128) ![0, 0, 0] S1x128x128.size inb_S2x128x128_S1x128x128_0_0_0) (fun _ => rfl)).squeeze S128x128 squeezes_S1x128x128_S128x128
abbrev slot1 : Memref sig .scVector .vmem S128x128 .f32 :=
  (Memref.slice (bW) (Rect.unit (s := S2x128x128) ![1, 0, 0] S1x128x128.size inb_S2x128x128_S1x128x128_1_0_0) (fun _ => rfl)).squeeze S128x128 squeezes_S1x128x128_S128x128

theorem slot0_set : (slot0.view.set : Finset S2x128x128.Idx) = slotSet 0 := by
  show (((View.whole (cc0_scratch0 : Ref sig .scVector)).slice (Rect.unit (s := S2x128x128) ![0, 0, 0] S1x128x128.size inb_S2x128x128_S1x128x128_0_0_0)).reshape S128x128 squeezes_S1x128x128_S128x128.numel_eq).set = _
  rw [View.set_reshape, View.set_slice]
  ext p
  rw [mem_slotSet, show Finset.map (View.whole (cc0_scratch0 : Ref sig .scVector)).emb (Rect.unit (s := S2x128x128) ![0, 0, 0] S1x128x128.size inb_S2x128x128_S1x128x128_0_0_0).set
    = (Rect.unit (s := S2x128x128) ![0, 0, 0] S1x128x128.size inb_S2x128x128_S1x128x128_0_0_0).set from Finset.map_refl, Rect.mem_set_unit]
  have h1 : (p 1).val < 128 := (p 1).isLt
  have h2 : (p 2).val < 128 := (p 2).isLt
  constructor
  · intro h; have := h 0; simp only [S1x128x128, Matrix.cons_val_zero] at this; omega
  · intro h a; fin_cases a
    · exact ⟨Nat.zero_le _, show (p 0).val < 0 + 1 by omega⟩
    · exact ⟨Nat.zero_le _, show (p 1).val < 0 + 128 by omega⟩
    · exact ⟨Nat.zero_le _, show (p 2).val < 0 + 128 by omega⟩

theorem slot1_set : (slot1.view.set : Finset S2x128x128.Idx) = slotSet 1 := by
  show (((View.whole (cc0_scratch0 : Ref sig .scVector)).slice (Rect.unit (s := S2x128x128) ![1, 0, 0] S1x128x128.size inb_S2x128x128_S1x128x128_1_0_0)).reshape S128x128 squeezes_S1x128x128_S128x128.numel_eq).set = _
  rw [View.set_reshape, View.set_slice]
  ext p
  rw [mem_slotSet, show Finset.map (View.whole (cc0_scratch0 : Ref sig .scVector)).emb (Rect.unit (s := S2x128x128) ![1, 0, 0] S1x128x128.size inb_S2x128x128_S1x128x128_1_0_0).set
    = (Rect.unit (s := S2x128x128) ![1, 0, 0] S1x128x128.size inb_S2x128x128_S1x128x128_1_0_0).set from Finset.map_refl, Rect.mem_set_unit]
  have h1 : (p 1).val < 128 := (p 1).isLt
  have h2 : (p 2).val < 128 := (p 2).isLt
  constructor
  · intro h; have := h 0; simp only [S1x128x128, Matrix.cons_val_zero] at this; omega
  · intro h a; fin_cases a
    · exact ⟨show 1 ≤ (p 0).val by omega, show (p 0).val < 1 + 1 by omega⟩
    · exact ⟨Nat.zero_le _, show (p 1).val < 0 + 128 by omega⟩
    · exact ⟨Nat.zero_le _, show (p 2).val < 0 + 128 by omega⟩

/-- The histogram buffer as the scatter addresses it. -/
theorem pts_h (f : Buf (Elt F) (hLoc d L)) :
    (((hW).access (.whole S4096)).loc (thr d L) ↦[((hW).access (.whole S4096)).set]{fullShare} f : sProp 𝕄) = hLoc d L ↦{fullShare} f := by
  rw [show ((hW).access (.whole S4096)).set = Finset.univ from Memref.set_access_whole (cc0_scratch1 : Ref sig .scVector)]

/-- A lane's place in a loaded group. -/
def cast16 (x : S16.Idx) : S1x1x16.Idx := fun | 0 => ⟨0, Nat.one_pos⟩ | 1 => ⟨0, Nat.one_pos⟩ | 2 => x 0

/-! ## One group, and one row -/

variable [FloatOps F]

/-- One group of one row: sixteen floats loaded from slot `s`, their histogram words checked and counted. -/
theorem wp_group {Q : BitVec 32 → sProp 𝕄} (s : ℕ) (hs : s < 2) (t : Fin 128) (j : ℕ) (hj : j < 8) (row : Fin 128 → F .f32)
    (f : Buf (Elt F) (bLoc d L)) (hf : ∀ c : Fin 128, f (bix s hs t c) = row c) (h : S4096.Idx → F .f32)
    {off : Fin 3 → ℕ} {inb : ∀ a, off a + S1x1x16.size a ≤ S2x128x128.size a} (hoff : off = ![s, t.val, 16 * j])
    {hl : (bW).view.LoadsAt (Rect.unit (s := S2x128x128) off S1x1x16.size inb).toLoadRect}
    {pay : Vec F S1x1x16 .f32 → IVec S16 32} (hpay : pay = idxV (lane (BitVec.ofNat 32 (16 * j))))
    {ones : FVec F S16 .f32} (hones : ones = fun _ => oneF)
    {chk : IVec S16 32 → Prop} (hchk : ∀ v, (∀ a x, ((![v] : Fin 1 → IVec S16 32) a x).toNat < S4096.size a) → chk v) {dec : ∀ v, Decidable (chk v)}
    {hb : ∀ v : IVec S16 32, chk v → ∀ a x, ((![v] : Fin 1 → IVec S16 32) a x).toNat < S4096.size a}
    {hst : ((hW).access (.whole S4096)).Stores Finset.univ}
    {k : PUnit → Prog (TpuEff nD τ sig (Elt F) Λ₀ (.scVector (cV L) (jV L))) (BitVec 32)} :
    iprop((bLoc d L ↦[slotSet s]{fullShare} f) ∗ (hLoc d L ↦{fullShare} rowUpTo row j h))
      ⊢ iprop((iprop((bLoc d L ↦[slotSet s]{fullShare} f) ∗ (hLoc d L ↦{fullShare} rowUpTo row (j + 1) h))
              -∗ wp frame (wpE (defs₀ (F := F)) 𝒱₀ (thr d L) none) Set.univ (k ⟨⟩) Q)
          -∗ wp frame (wpE (defs₀ (F := F)) 𝒱₀ (thr d L) none) Set.univ
              (.op (.load bW (Rect.unit (s := S2x128x128) off S1x1x16.size inb).toLoadRect hl) fun ld =>
                .op (.assume (chk (pay ld)) (dec (pay ld))) fun w =>
                  SparseCore.vectorStoreIdx hW ![pay ld] ones (fun _ => 1#1) true (hb (pay ld) w.down) hst >>= k) Q) := by
  subst hoff hpay hones
  iintro ⟨Hb, Hh⟩ Hk
  have hsub : (bW).view.setOn (Rect.unit (s := S2x128x128) ![s, t.val, 16 * j] S1x1x16.size inb).set ⊆ slotSet s := by
    show Finset.map _ _ ⊆ _
    rw [show ((bW).view.emb) = Function.Embedding.refl _ from rfl, Finset.map_refl]
    intro p hp
    rw [Rect.mem_set_unit] at hp
    have := hp 0
    simp only [S1x1x16, Matrix.cons_val_zero] at this
    rw [mem_slotSet]; omega
  iapply (wp_load 𝒱₀ (thr d L) none Set.univ (m := bW) (S := slotSet s) (q := fullShare) (f := f) hsub) $$ Hb
  iintro Hb
  have hld : ∀ x : S16.Idx, shapeCast S16 ((bW).view.readAt (Elt F) (Rect.unit (s := S2x128x128) ![s, t.val, 16 * j] S1x1x16.size inb).toLoadRect f) shapeCasts_S1x1x16_S16 x
      = row ⟨16 * j + (x 0).val, by have : (x 0).val < 16 := (x 0).isLt; omega⟩ := by
    intro x
    have hx : (x 0).val < 16 := (x 0).isLt
    rw [← hf ⟨16 * j + (x 0).val, by omega⟩]
    have e : Shape.reshapeEquiv shapeCasts_S1x1x16_S16 x = cast16 x := Shape.reshapeEquiv_eq_of_rowMajor _ (by
      rw [Shape.rowMajor_val_three, Shape.rowMajor_val_one]
      show (0 * 1 + 0) * 16 + (x 0).val = (x 0).val
      omega)
    show f ((Rect.unit (s := S2x128x128) ![s, t.val, 16 * j] S1x1x16.size inb).toLoadRect.idx (Shape.reshapeEquiv _ x)) = _
    refine congrArg f ?_
    rw [e]
    funext a
    apply Fin.ext
    rw [LoadRect.idx_apply]
    fin_cases a
    · show s + 1 * 0 = s; omega
    · show t.val + 1 * 0 = t.val; omega
    · show 16 * j + 1 * (x 0).val = 16 * j + (x 0).val; omega
  have hin := hchk _ (idxV_lt j hj ((bW).view.readAt (Elt F) (Rect.unit (s := S2x128x128) ![s, t.val, 16 * j] S1x1x16.size inb).toLoadRect f))
  rw [wp_assume_of _ _ _ _ hin]
  ihave Hh' := (Entails.of_eq (pts_h (F := F) d L _).symm) $$ Hh
  iapply (SparseCore.wp_vectorStoreIdx 𝒱₀ (thr d L) none Set.univ (base := hW) (f := rowUpTo row j h)) $$ Hh'
  iintro Hh'
  ihave Hh := (Entails.of_eq (pts_h (F := F) d L _)) $$ Hh'
  iapply Hk
  isplitl [Hb]; · iexact Hb
  rw [Memref.write_access_whole_univ (Elt F) (cc0_scratch1 : Ref sig .scVector), Memref.read_access_whole (Elt F) (cc0_scratch1 : Ref sig .scVector)]
  rw [← storeIdx_group row j hj h _ hld (hb _ hin)]
  iexact Hh

end Tile

end Cert.Proof.HistI

end
-- ==== Proof.HistI.Row.lean ====
/-
  The two row loops of a tile: 128 rows of one slot counted, one row a trip, eight groups a row.
-/
module

public import proofs.«01_k».proof.Proof.HistI.Setup

@[expose] public section

noncomputable section

namespace Cert.Proof.HistI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xW" => (Memref.whole Cert.KernelIdeal.main_v0_scv : Memref Cert.KernelIdeal.sig Kind.scVector Space.hbm Cert.KernelIdeal.S262144x128 EltTy.f32)
local notation "oW" => (Memref.whole Cert.KernelIdeal.main_v1_scv : Memref Cert.KernelIdeal.sig Kind.scVector Space.hbm Cert.KernelIdeal.S32x4096 EltTy.f32)
local notation "bW" => (Memref.whole Cert.KernelIdeal.cc0_scratch0 : Memref Cert.KernelIdeal.sig Kind.scVector Space.vmem Cert.KernelIdeal.S2x128x128 EltTy.f32)
local notation "hW" => (Memref.whole Cert.KernelIdeal.cc0_scratch1 : Memref Cert.KernelIdeal.sig Kind.scVector Space.vmem Cert.KernelIdeal.S4096 EltTy.f32)

variable (d : Dev nD) (L : grid0.Coords) [FloatOps F]

/-- One row of slot 0. -/
theorem row3_body (rows : ℕ → Fin 128 → F .f32) (n : ℕ) (f : Buf (Elt F) (bLoc d L)) (k0_t2 : Fin k0_t2_loop.trips) (v2 c0 c1 : BitVec 32) (t : Fin k0_t3_loop.trips) (a : BitVec 32)
    (hf : ∀ (r c : Fin 128), f (bix 0 (by decide) r c) = rows (n + r.val) c) :
    (iprop((bLoc d L ↦[slotSet 0]{fullShare} f) ∗ (hLoc d L ↦{fullShare} histN rows (n + t.val))) : sProp 𝕄)
      ⊢ wp frame (wpE (defs₀ (F := F)) 𝒱₀ (thr d L) none) Set.univ
          (k0_t3_body L xW (Memref.isWhole_whole _) oW (Memref.isWhole_whole _) bW (Memref.isWhole_whole _) hW (Memref.isWhole_whole _) cc0_scratch2 cc0_scratch3 cc0_scoped0
            v2 (k0_pay18 (F := F)) k0_pay19 k0_pay20 k0_pay21 k0_pay22 k0_pay23 k0_pay24 k0_pay25 k0_pay26 c0 c1 k0_t2 t a)
          fun _ => iprop((bLoc d L ↦[slotSet 0]{fullShare} f) ∗ (hLoc d L ↦{fullShare} histN rows (n + t.val + 1))) := by
  have ht : t.val < 128 := lt_of_lt_of_eq t.isLt (show k0_t3_loop.trips = 128 by decide)
  unfold k0_t3_body
  simp only [k0_part1_eq_skeleton, k0_part2_eq_skeleton, k0_part3_eq_skeleton]
  unfold k0_part1_skel k0_part2_skel k0_part3_skel
  simp only [Prog.lift, Prog.bind_op, Prog.bind_ret, Prog.pure_eq_ret, bind_assoc]
  iintro ⟨Hb, Hh⟩
  rw [show histN rows (n + t.val) = rowUpTo (rows (n + t.val)) 0 (histN rows (n + t.val)) from (rowUpTo_zero _ _).symm]
  iapply (wp_group d L 0 (by decide) ⟨t.val, ht⟩ 0 (by decide) (rows (n + t.val)) f (hf ⟨t.val, ht⟩) (histN rows (n + t.val))
      (k0_off5_eq t) (pay := k0_pay3 k0_pay19) (by rw [pay3_eq, pay19_eq]) (ones := k0_pay18) pay18_eq (chk := k0_chk1) (fun _ h => h)
      (dec := k0_chk1.dec) (hb := k0_idx1_inb)) $$ [Hb Hh]
  · isplitl [Hb] <;> iassumption
  iintro ⟨Hb, Hh⟩
  iapply (wp_group d L 0 (by decide) ⟨t.val, ht⟩ 1 (by decide) (rows (n + t.val)) f (hf ⟨t.val, ht⟩) (histN rows (n + t.val))
      (k0_off6_eq t) (pay := k0_pay4 k0_pay20) (by rw [pay4_eq, pay20_eq]) (ones := k0_pay18) pay18_eq (chk := k0_chk2) (fun _ h => h)
      (dec := k0_chk2.dec) (hb := k0_idx2_inb)) $$ [Hb Hh]
  · isplitl [Hb] <;> iassumption
  iintro ⟨Hb, Hh⟩
  iapply (wp_group d L 0 (by decide) ⟨t.val, ht⟩ 2 (by decide) (rows (n + t.val)) f (hf ⟨t.val, ht⟩) (histN rows (n + t.val))
      (k0_off7_eq t) (pay := k0_pay5 k0_pay21) (by rw [pay5_eq, pay21_eq]) (ones := k0_pay18) pay18_eq (chk := k0_chk3) (fun _ h => h)
      (dec := k0_chk3.dec) (hb := k0_idx3_inb)) $$ [Hb Hh]
  · isplitl [Hb] <;> iassumption
  iintro ⟨Hb, Hh⟩
  iapply (wp_group d L 0 (by decide) ⟨t.val, ht⟩ 3 (by decide) (rows (n + t.val)) f (hf ⟨t.val, ht⟩) (histN rows (n + t.val))
      (k0_off8_eq t) (pay := k0_pay6 k0_pay22) (by rw [pay6_eq, pay22_eq]) (ones := k0_pay18) pay18_eq (chk := k0_chk4) (fun _ h => h)
      (dec := k0_chk4.dec) (hb := k0_idx4_inb)) $$ [Hb Hh]
  · isplitl [Hb] <;> iassumption
  iintro ⟨Hb, Hh⟩
  iapply (wp_group d L 0 (by decide) ⟨t.val, ht⟩ 4 (by decide) (rows (n + t.val)) f (hf ⟨t.val, ht⟩) (histN rows (n + t.val))
      (k0_off9_eq t) (pay := k0_pay7 k0_pay23) (by rw [pay7_eq, pay23_eq]) (ones := k0_pay18) pay18_eq (chk := k0_chk5) (fun _ h => h)
      (dec := k0_chk5.dec) (hb := k0_idx5_inb)) $$ [Hb Hh]
  · isplitl [Hb] <;> iassumption
  iintro ⟨Hb, Hh⟩
  iapply (wp_group d L 0 (by decide) ⟨t.val, ht⟩ 5 (by decide) (rows (n + t.val)) f (hf ⟨t.val, ht⟩) (histN rows (n + t.val))
      (k0_off10_eq t) (pay := k0_pay8 k0_pay24) (by rw [pay8_eq, pay24_eq]) (ones := k0_pay18) pay18_eq (chk := k0_chk6) (fun _ h => h)
      (dec := k0_chk6.dec) (hb := k0_idx6_inb)) $$ [Hb Hh]
  · isplitl [Hb] <;> iassumption
  iintro ⟨Hb, Hh⟩
  iapply (wp_group d L 0 (by decide) ⟨t.val, ht⟩ 6 (by decide) (rows (n + t.val)) f (hf ⟨t.val, ht⟩) (histN rows (n + t.val))
      (k0_off11_eq t) (pay := k0_pay15 k0_pay25) (by rw [pay15_eq, pay25_eq]) (ones := k0_pay18) pay18_eq (chk := k0_chk7) (fun _ h => h)
      (dec := k0_chk7.dec) (hb := k0_idx7_inb)) $$ [Hb Hh]
  · isplitl [Hb] <;> iassumption
  iintro ⟨Hb, Hh⟩
  iapply (wp_group d L 0 (by decide) ⟨t.val, ht⟩ 7 (by decide) (rows (n + t.val)) f (hf ⟨t.val, ht⟩) (histN rows (n + t.val))
      (k0_off12_eq t) (pay := k0_pay16 k0_pay26) (by rw [pay16_eq, pay26_eq]) (ones := k0_pay18) pay18_eq (chk := k0_chk8) (fun _ h => h)
      (dec := k0_chk8.dec) (hb := k0_idx8_inb)) $$ [Hb Hh]
  · isplitl [Hb] <;> iassumption
  iintro ⟨Hb, Hh⟩
  rw [wp_ret]; imodintro
  isplitl [Hb]; · iexact Hb
  iexact Hh

/-- One row of slot 1. -/
theorem row4_body (rows : ℕ → Fin 128 → F .f32) (n : ℕ) (f : Buf (Elt F) (bLoc d L)) (t : Fin k0_t4_loop.trips) (a : BitVec 32)
    (hf : ∀ (r c : Fin 128), f (bix 1 (by decide) r c) = rows (n + r.val) c) :
    (iprop((bLoc d L ↦[slotSet 1]{fullShare} f) ∗ (hLoc d L ↦{fullShare} histN rows (n + t.val))) : sProp 𝕄)
      ⊢ wp frame (wpE (defs₀ (F := F)) 𝒱₀ (thr d L) none) Set.univ
          (k0_t4_body L xW (Memref.isWhole_whole _) oW (Memref.isWhole_whole _) bW (Memref.isWhole_whole _) hW (Memref.isWhole_whole _) cc0_scratch2 cc0_scratch3 cc0_scoped0
            (k0_pay18 (F := F)) k0_pay19 k0_pay20 k0_pay21 k0_pay22 k0_pay23 k0_pay24 k0_pay25 k0_pay26 t a)
          fun _ => iprop((bLoc d L ↦[slotSet 1]{fullShare} f) ∗ (hLoc d L ↦{fullShare} histN rows (n + t.val + 1))) := by
  have ht : t.val < 128 := lt_of_lt_of_eq t.isLt (show k0_t4_loop.trips = 128 by decide)
  unfold k0_t4_body
  simp only [k0_part4_eq_skeleton, k0_part5_eq_skeleton, k0_part6_eq_skeleton]
  unfold k0_part4_skel k0_part5_skel k0_part6_skel
  simp only [Prog.lift, Prog.bind_op, Prog.bind_ret, Prog.pure_eq_ret, bind_assoc]
  iintro ⟨Hb, Hh⟩
  rw [show histN rows (n + t.val) = rowUpTo (rows (n + t.val)) 0 (histN rows (n + t.val)) from (rowUpTo_zero _ _).symm]
  iapply (wp_group d L 1 (by decide) ⟨t.val, ht⟩ 0 (by decide) (rows (n + t.val)) f (hf ⟨t.val, ht⟩) (histN rows (n + t.val))
      (k0_off14_eq t) (pay := k0_pay9 k0_pay19) (by rw [pay9_eq, pay19_eq]) (ones := k0_pay18) pay18_eq (chk := k0_chk9) (fun _ h => h)
      (dec := k0_chk9.dec) (hb := k0_idx9_inb)) $$ [Hb Hh]
  · isplitl [Hb] <;> iassumption
  iintro ⟨Hb, Hh⟩
  iapply (wp_group d L 1 (by decide) ⟨t.val, ht⟩ 1 (by decide) (rows (n + t.val)) f (hf ⟨t.val, ht⟩) (histN rows (n + t.val))
      (k0_off15_eq t) (pay := k0_pay10 k0_pay20) (by rw [pay10_eq, pay20_eq]) (ones := k0_pay18) pay18_eq (chk := k0_chk10) (fun _ h => h)
      (dec := k0_chk10.dec) (hb := k0_idx10_inb)) $$ [Hb Hh]
  · isplitl [Hb] <;> iassumption
  iintro ⟨Hb, Hh⟩
  iapply (wp_group d L 1 (by decide) ⟨t.val, ht⟩ 2 (by decide) (rows (n + t.val)) f (hf ⟨t.val, ht⟩) (histN rows (n + t.val))
      (k0_off16_eq t) (pay := k0_pay11 k0_pay21) (by rw [pay11_eq, pay21_eq]) (ones := k0_pay18) pay18_eq (chk := k0_chk11) (fun _ h => h)
      (dec := k0_chk11.dec) (hb := k0_idx11_inb)) $$ [Hb Hh]
  · isplitl [Hb] <;> iassumption
  iintro ⟨Hb, Hh⟩
  iapply (wp_group d L 1 (by decide) ⟨t.val, ht⟩ 3 (by decide) (rows (n + t.val)) f (hf ⟨t.val, ht⟩) (histN rows (n + t.val))
      (k0_off17_eq t) (pay := k0_pay12 k0_pay22) (by rw [pay12_eq, pay22_eq]) (ones := k0_pay18) pay18_eq (chk := k0_chk12) (fun _ h => h)
      (dec := k0_chk12.dec) (hb := k0_idx12_inb)) $$ [Hb Hh]
  · isplitl [Hb] <;> iassumption
  iintro ⟨Hb, Hh⟩
  iapply (wp_group d L 1 (by decide) ⟨t.val, ht⟩ 4 (by decide) (rows (n + t.val)) f (hf ⟨t.val, ht⟩) (histN rows (n + t.val))
      (k0_off18_eq t) (pay := k0_pay13 k0_pay23) (by rw [pay13_eq, pay23_eq]) (ones := k0_pay18) pay18_eq (chk := k0_chk13) (fun _ h => h)
      (dec := k0_chk13.dec) (hb := k0_idx13_inb)) $$ [Hb Hh]
  · isplitl [Hb] <;> iassumption
  iintro ⟨Hb, Hh⟩
  iapply (wp_group d L 1 (by decide) ⟨t.val, ht⟩ 5 (by decide) (rows (n + t.val)) f (hf ⟨t.val, ht⟩) (histN rows (n + t.val))
      (k0_off19_eq t) (pay := k0_pay14 k0_pay24) (by rw [pay14_eq, pay24_eq]) (ones := k0_pay18) pay18_eq (chk := k0_chk14) (fun _ h => h)
      (dec := k0_chk14.dec) (hb := k0_idx14_inb)) $$ [Hb Hh]
  · isplitl [Hb] <;> iassumption
  iintro ⟨Hb, Hh⟩
  iapply (wp_group d L 1 (by decide) ⟨t.val, ht⟩ 6 (by decide) (rows (n + t.val)) f (hf ⟨t.val, ht⟩) (histN rows (n + t.val))
      (k0_off20_eq t) (pay := k0_pay1 k0_pay25) (by rw [pay1_eq, pay25_eq]) (ones := k0_pay18) pay18_eq (chk := k0_chk15) (fun _ h => h)
      (dec := k0_chk15.dec) (hb := k0_idx15_inb)) $$ [Hb Hh]
  · isplitl [Hb] <;> iassumption
  iintro ⟨Hb, Hh⟩
  iapply (wp_group d L 1 (by decide) ⟨t.val, ht⟩ 7 (by decide) (rows (n + t.val)) f (hf ⟨t.val, ht⟩) (histN rows (n + t.val))
      (k0_off21_eq t) (pay := k0_pay2 k0_pay26) (by rw [pay2_eq, pay26_eq]) (ones := k0_pay18) pay18_eq (chk := k0_chk16) (fun _ h => h)
      (dec := k0_chk16.dec) (hb := k0_idx16_inb)) $$ [Hb Hh]
  · isplitl [Hb] <;> iassumption
  iintro ⟨Hb, Hh⟩
  rw [wp_ret]; imodintro
  isplitl [Hb]; · iexact Hb
  iexact Hh

/-- The 128 rows of slot 0. -/
theorem row3_loop {α : Type} {Q : α → sProp 𝕄} (rows : ℕ → Fin 128 → F .f32) (n : ℕ) (f : Buf (Elt F) (bLoc d L)) (k0_t2 : Fin k0_t2_loop.trips) (v2 c0 c1 : BitVec 32)
    (hf : ∀ (r c : Fin 128), f (bix 0 (by decide) r c) = rows (n + r.val) c)
    {kk : BitVec 32 → Prog (TpuEff nD τ sig (Elt F) Λ₀ (.scVector (cV L) (jV L))) α} :
    (iprop((bLoc d L ↦[slotSet 0]{fullShare} f) ∗ (hLoc d L ↦{fullShare} histN rows n)) : sProp 𝕄)
      ⊢ iprop((∀ v, iprop((bLoc d L ↦[slotSet 0]{fullShare} f) ∗ (hLoc d L ↦{fullShare} histN rows (n + 128)))
              -∗ wp frame (wpE (defs₀ (F := F)) 𝒱₀ (thr d L) none) Set.univ (kk v) Q)
          -∗ wp frame (wpE (defs₀ (F := F)) 𝒱₀ (thr d L) none) Set.univ
              (Scf.Loop.for k0_t3_loop k0_t3_ok 0#32
                (k0_t3_body L xW (Memref.isWhole_whole _) oW (Memref.isWhole_whole _) bW (Memref.isWhole_whole _) hW (Memref.isWhole_whole _) cc0_scratch2 cc0_scratch3 cc0_scoped0
                  v2 (k0_pay18 (F := F)) k0_pay19 k0_pay20 k0_pay21 k0_pay22 k0_pay23 k0_pay24 k0_pay25 k0_pay26 c0 c1 k0_t2) >>= kk) Q) :=
  Scf.wp_for_bind frame (wpE (defs₀ (F := F)) 𝒱₀ (thr d L) none) Set.univ _ _ _ k0_t3_ok 0#32 _
    (fun k _ => iprop((bLoc d L ↦[slotSet 0]{fullShare} f) ∗ (hLoc d L ↦{fullShare} histN rows (n + k))))
    (fun t a => row3_body d L rows n f k0_t2 v2 c0 c1 t a hf)

/-- The 128 rows of slot 1. -/
theorem row4_loop {α : Type} {Q : α → sProp 𝕄} (rows : ℕ → Fin 128 → F .f32) (n : ℕ) (f : Buf (Elt F) (bLoc d L))
    (hf : ∀ (r c : Fin 128), f (bix 1 (by decide) r c) = rows (n + r.val) c)
    {kk : BitVec 32 → Prog (TpuEff nD τ sig (Elt F) Λ₀ (.scVector (cV L) (jV L))) α} :
    (iprop((bLoc d L ↦[slotSet 1]{fullShare} f) ∗ (hLoc d L ↦{fullShare} histN rows n)) : sProp 𝕄)
      ⊢ iprop((∀ v, iprop((bLoc d L ↦[slotSet 1]{fullShare} f) ∗ (hLoc d L ↦{fullShare} histN rows (n + 128)))
              -∗ wp frame (wpE (defs₀ (F := F)) 𝒱₀ (thr d L) none) Set.univ (kk v) Q)
          -∗ wp frame (wpE (defs₀ (F := F)) 𝒱₀ (thr d L) none) Set.univ
              (Scf.Loop.for k0_t4_loop k0_t4_ok 0#32
                (k0_t4_body L xW (Memref.isWhole_whole _) oW (Memref.isWhole_whole _) bW (Memref.isWhole_whole _) hW (Memref.isWhole_whole _) cc0_scratch2 cc0_scratch3 cc0_scoped0
                  (k0_pay18 (F := F)) k0_pay19 k0_pay20 k0_pay21 k0_pay22 k0_pay23 k0_pay24 k0_pay25 k0_pay26) >>= kk) Q) :=
  Scf.wp_for_bind frame (wpE (defs₀ (F := F)) 𝒱₀ (thr d L) none) Set.univ _ _ _ k0_t4_ok 0#32 _
    (fun k _ => iprop((bLoc d L ↦[slotSet 1]{fullShare} f) ∗ (hLoc d L ↦{fullShare} histN rows (n + k))))
    (fun t a => row4_body d L rows n f t a hf)

end Cert.Proof.HistI

end
-- ==== Proof.HistI.Tile.lean ====
/-
  One tile's body, once, at a symbolic SparseCore and tile: the histogram zeroed, the tile's 8192 rows fetched in 64 chunks into two slots —
  each slot's chunk on its own semaphore, the next one started before this one is counted — every chunk's rows counted, and the histogram
  written to the tile's row of the table.
-/
module

public import proofs.«01_k».proof.Proof.HistI.Row

@[expose] public section

noncomputable section

namespace Cert.Proof.HistI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xW" => (Memref.whole Cert.KernelIdeal.main_v0_scv : Memref Cert.KernelIdeal.sig Kind.scVector Space.hbm Cert.KernelIdeal.S262144x128 EltTy.f32)
local notation "oW" => (Memref.whole Cert.KernelIdeal.main_v1_scv : Memref Cert.KernelIdeal.sig Kind.scVector Space.hbm Cert.KernelIdeal.S32x4096 EltTy.f32)
local notation "bW" => (Memref.whole Cert.KernelIdeal.cc0_scratch0 : Memref Cert.KernelIdeal.sig Kind.scVector Space.vmem Cert.KernelIdeal.S2x128x128 EltTy.f32)
local notation "hW" => (Memref.whole Cert.KernelIdeal.cc0_scratch1 : Memref Cert.KernelIdeal.sig Kind.scVector Space.vmem Cert.KernelIdeal.S4096 EltTy.f32)

/-! ## The rows of the input -/

/-- Row `r` of the input. -/
def xrow (x : S262144x128.Idx → F .f32) (r : ℕ) (c : Fin 128) : F .f32 := x (xix (r % 262144) (Nat.mod_lt _ (by decide)) c)

/-- A slot holding the 128 rows of the input from row `b`. -/
def XB (x : S262144x128.Idx → F .f32) (b : ℕ) : S2x128x128.Idx → F .f32 := fun p => xrow x (b + (p 1).val) (p 2)

/-- The first row of the tile. -/
def base (L : grid0.Coords) : ℕ := 16384 * (L 1).val + 8192 * (L 0).val

/-- The tile's rows. -/
def rowsOf (x : S262144x128.Idx → F .f32) (b : ℕ) (n : ℕ) : Fin 128 → F .f32 := xrow x (b + n)

theorem XB_bix (x : S262144x128.Idx → F .f32) (b n : ℕ) (s : ℕ) (hs : s < 2) (r c : Fin 128) :
    XB x (b + n) (bix s hs r c) = rowsOf x b (n + r.val) c := by
  show xrow x (b + n + r.val) c = xrow x (b + (n + r.val)) c
  rw [Nat.add_assoc]

variable (d : Dev nD) (L : grid0.Coords)

/-! ## A chunk's transfer into a slot -/

/-- A slot of the row buffer, as the program slices it. -/
abbrev slotM (off : Fin 3 → ℕ) (inb : ∀ a, off a + S1x128x128.size a ≤ S2x128x128.size a) : Memref sig .scVector .vmem S128x128 .f32 :=
  (Memref.slice (bW) (Rect.unit (s := S2x128x128) off S1x128x128.size inb) (fun _ => rfl)).squeeze S128x128 squeezes_S1x128x128_S128x128

theorem slotM_emb (s : ℕ) (hs : s < 2) {off : Fin 3 → ℕ} (inb : ∀ a, off a + S1x128x128.size a ≤ S2x128x128.size a) (hoff : off = ![s, 0, 0]) (y : S128x128.Idx) :
    (slotM off inb).view.emb y = bix s hs (y 0) (y 1) := by
  subst hoff
  have e : Shape.reshapeEquiv squeezes_S1x128x128_S128x128.numel_eq y = Fin.cons ⟨0, Nat.one_pos⟩ y :=
    Shape.reshapeEquiv_cons_one (d := ![128, 128]) _ y
  show (Rect.unit (s := S2x128x128) ![s, 0, 0] S1x128x128.size inb).emb (Shape.reshapeEquiv squeezes_S1x128x128_S128x128.numel_eq y) = _
  rw [e]
  funext a
  apply Fin.ext
  fin_cases a
  · show s + 1 * 0 = s; omega
  · show 0 + 1 * (y 0).val = (y 0).val; omega
  · show 0 + 1 * (y 1).val = (y 1).val; omega

theorem slotM_set (s : ℕ) (hs : s < 2) {off : Fin 3 → ℕ} (inb : ∀ a, off a + S1x128x128.size a ≤ S2x128x128.size a) (hoff : off = ![s, 0, 0]) :
    ((slotM off inb).view.set : Finset S2x128x128.Idx) = slotSet s := by
  ext p
  rw [mem_slotSet]
  constructor
  · intro h
    obtain ⟨y, -, e⟩ := Finset.mem_map.mp h
    rw [← e, slotM_emb s hs inb hoff]; rfl
  · intro h
    refine Finset.mem_map.mpr ⟨(fun | 0 => p 1 | 1 => p 2 : S128x128.Idx), Finset.mem_univ _, ?_⟩
    rw [slotM_emb s hs inb hoff]
    funext a
    fin_cases a
    · exact Fin.ext h.symm
    · rfl
    · rfl

/-- The chunk of the input starting at row `b`, as the program slices it. -/
abbrev chunkM (off : Fin 2 → ℕ) (inb : ∀ a, off a + S128x128.size a ≤ S262144x128.size a) : Memref sig .scVector .hbm S128x128 .f32 :=
  Memref.slice (xW) (Rect.unit (s := S262144x128) off S128x128.size inb) (fun _ => rfl)

/-- What lands in the slot. -/
theorem landed (s : ℕ) (hs : s < 2) {off : Fin 3 → ℕ} (inb : ∀ a, off a + S1x128x128.size a ≤ S2x128x128.size a) (hoff : off = ![s, 0, 0])
    (b : ℕ) {xo : Fin 2 → ℕ} (xi : ∀ a, xo a + S128x128.size a ≤ S262144x128.size a) (hx : xo = ![b, 0])
    (x : Buf (Elt F) (xLoc d)) (g : Buf (Elt F) (bLoc d L)) (p : S2x128x128.Idx) (hp : p ∈ slotSet s) :
    (slotM off inb).view.write (Elt F) g ((chunkM xo xi).view.read (Elt F) x) Finset.univ p = XB (F := F) x b p := by
  have hb := xi 0
  subst hx
  have hb' : b + 128 ≤ 262144 := hb
  obtain ⟨y, hy⟩ : ∃ y : S128x128.Idx, (slotM off inb).view.emb y = p := by
    rw [← slotM_set s hs inb hoff] at hp
    obtain ⟨y, -, e⟩ := Finset.mem_map.mp hp
    exact ⟨y, e⟩
  rw [← hy, View.write_emb_of_mem _ _ (Finset.mem_univ y), slotM_emb s hs inb hoff y]
  have h0 : (y 0).val < 128 := (y 0).isLt
  show x ((Rect.unit (s := S262144x128) ![b, 0] S128x128.size xi).emb y) = x (xix ((b + (y 0).val) % 262144) _ (y 1))
  refine congrArg x ?_
  funext a
  apply Fin.ext
  fin_cases a
  · show b + 1 * (y 0).val = (b + (y 0).val) % 262144
    rw [Nat.mod_eq_of_lt (by omega)]; omega
  · show 0 + 1 * (y 1).val = (y 1).val; omega

variable [FloatOps F]

/-- A chunk's transfer started: what it will deliver is the slot at the chunk's rows and the share of the input it reads. -/
theorem wp_start {α : Type} {Q : α → sProp 𝕄} (s : ℕ) (hs : s < 2) {off : Fin 3 → ℕ} {inb : ∀ a, off a + S1x128x128.size a ≤ S2x128x128.size a} (hoff : off = ![s, 0, 0])
    (b : ℕ) {xo : Fin 2 → ℕ} {xi : ∀ a, xo a + S128x128.size a ≤ S262144x128.size a} (hx : xo = ![b, 0])
    (x : Buf (Elt F) (xLoc d)) {q : PosShare TreeShare} {g : Buf (Elt F) (bLoc d L)} {sem : DmaSem sig}
    {hsrc : (chunkM xo xi).view.WordExact} {hdst : (slotM off inb).view.WordExact}
    {hsem : (DmaTarget.here (slotM off inb) : DmaTarget nD τ sig (.scVector (cV L) (jV L)) .vmem S128x128 .f32).Typed .hbm (.dma sem)}
    {k : PUnit → Prog (TpuEff nD τ sig (Elt F) Λ₀ (.scVector (cV L) (jV L))) α} :
    (iprop((xLoc d ↦{q} x) ∗ (bLoc d L ↦[slotSet s]{fullShare} g) ∗ semVal (thr d L, .dma sem) 0) : sProp 𝕄)
      ⊢ iprop((Transfers.Flight EC (thr d L) (.dma sem) none (slotM off inb).view.dmaCredit
                  iprop((bLoc d L ↦[slotSet s]{fullShare} XB (F := F) x b) ∗ (xLoc d ↦{q} x))
                -∗ wp frame (wpE (defs₀ (F := F)) 𝒱₀ (thr d L) none) Set.univ (k ⟨⟩) Q)
          -∗ wp frame (wpE (defs₀ (F := F)) 𝒱₀ (thr d L) none) Set.univ
              (.op (.enqueueDma (chunkM xo xi) (.here (slotM off inb)) (.dma sem) hsrc hdst hsem) k) Q) := by
  iintro ⟨Hx, Hb, Hs⟩ Hk
  ihave Hx' := (pointsTo_split_subset (ℓ := xLoc d) (q := q) (f := x) (Finset.subset_univ (chunkM xo xi).view.set)).1 $$ Hx
  icases Hx' with ⟨Hx, Hxr⟩
  iapply (Transfers.wp_dmaLocal EC 𝒱₀ (thr d L) none (src := chunkM xo xi) (dst := slotM off inb) (q := q) (fs := x) (Sd := slotSet s) (fd := g)
    (sm := .dma sem) none (slotM off inb).view.dmaCredit rfl (View.dmaCredit_pos _ (show 0 < S128x128.numel by decide))
    (by rw [slotM_set s hs inb hoff])) $$ [Hx Hb Hs]
  · isplitl [Hx]; · iexact Hx
    isplitl [Hb]; · iexact Hb
    iexact Hs
  iintro HF
  iapply Hk
  ihave HF' := (Transfers.Flight_frame EC (thr d L)) $$ [Hxr HF]
  · isplitl [Hxr]; · iexact Hxr
    iexact HF
  iapply (Transfers.Flight_mono EC (thr d L) ?h) $$ HF'
  case h =>
    iintro ⟨Hxr, Hb, Hx⟩
    isplitl [Hb]
    · iapply (Entails.of_eq (pointsTo_congr (ℓ := bLoc d L) (q := fullShare) (landed d L s hs inb hoff b xi hx x g))); iexact Hb
    · iapply (pointsTo_split_subset (ℓ := xLoc d) (q := q) (f := x) (Finset.subset_univ (chunkM xo xi).view.set)).2
      isplitl [Hx]; · iexact Hx
      iexact Hxr

/-! ## The chunk loop -/

abbrev s0 : GSem nD τ sig := (thr d L, .dma cc0_scratch2.sem)
abbrev s1 : GSem nD τ sig := (thr d L, .dma cc0_scratch3.sem)
abbrev sR : GSem nD τ sig := (thr d L, .dma cc0_scoped0.sem)
abbrev slotA : Memref sig .scVector .vmem S128x128 .f32 := slotM ![0, 0, 0] inb_S2x128x128_S1x128x128_0_0_0
abbrev slotB : Memref sig .scVector .vmem S128x128 .f32 := slotM ![1, 0, 0] inb_S2x128x128_S1x128x128_1_0_0

/-- Slot 0 before trip `g`: chunk `2 g` on its way, or, after the last trip, nothing. -/
def slotBefore (x : Buf (Elt F) (xLoc d)) (qa : PosShare TreeShare) (g : ℕ) : sProp 𝕄 :=
  if g < 32 then Transfers.Flight EC (thr d L) (.dma cc0_scratch2.sem) none slotA.view.dmaCredit
      iprop((bLoc d L ↦[slotSet 0]{fullShare} XB (F := F) x (base L + 256 * g)) ∗ (xLoc d ↦{qa} x))
    else iprop((∃ f, bLoc d L ↦[slotSet 0]{fullShare} f) ∗ (xLoc d ↦{qa} x) ∗ semVal (s0 d L) 0)

/-- Before trip `g`: `256 g` rows are counted. -/
def inv2 (x : Buf (Elt F) (xLoc d)) (qa qb : PosShare TreeShare) (O : CellTallies nD τ sig (HIx 1)) (W : Waits sig (HIx 1)) (g : ℕ) (_ : BitVec 32) : sProp 𝕄 :=
  iprop(levAts (K (F := F)).L (K (F := F)).lev ∗ (hLoc d L ↦{fullShare} histN (rowsOf (F := F) x (base L)) (256 * g))
    ∗ (xLoc d ↦{qb} x) ∗ (∃ f, bLoc d L ↦[slotSet 1]{fullShare} f) ∗ semVal (s1 d L) 0
    ∗ slotBefore d L x qa g ∗ ∃ W', ⌜∀ p ∈ W', p ∈ W ∨ p.2 = none⌝ ∗ owes (thr d L) O W')

theorem cond1_true : ∀ t : Fin k0_t2_loop.trips, k0_cond1 t = 1#1 := by decide +kernel
theorem cond2_iff : ∀ t : Fin k0_t2_loop.trips, k0_cond2 t = 1#1 ↔ t.val < 31 := by decide +kernel

theorem off3_base (t : Fin k0_t2_loop.trips) : k0_off3 L t = ![base L + (256 * t.val + 128), 0] :=
  (k0_off3_eq L t).trans (by rw [Nat.add_assoc (16384 * (L 1).val + 8192 * (L 0).val)]; rfl)
theorem off13_base (t : Fin k0_t2_loop.trips) : k0_off13 L t = ![base L + 256 * (t.val + 1), 0] :=
  (k0_off13_eq L t).trans (by rw [Nat.add_assoc (16384 * (L 1).val + 8192 * (L 0).val)]; rfl)
theorem off2_base : k0_off2 L = ![base L + 256 * 0, 0] := k0_off2_eq L

theorem ins_none {W W' : Waits sig (HIx 1)} (h : ∀ p ∈ W', p ∈ W ∨ p.2 = none) (sm : SemLoc sig) : ∀ p ∈ insert (sm, (none : HIx 1)) W', p ∈ W ∨ p.2 = none := by
  intro p hp
  rcases Finset.mem_insert.mp hp with rfl | hp
  · exact .inr rfl
  · exact h p hp

theorem t2_body (x : Buf (Elt F) (xLoc d)) (qa qb : PosShare TreeShare) (O : CellTallies nD τ sig (HIx 1)) (W : Waits sig (HIx 1)) (hO : ∀ g, O g none = 0)
    (t : Fin k0_t2_loop.trips) (a : BitVec 32) :
    inv2 d L x qa qb O W t.val a
      ⊢ wp frame (wpE (defs₀ (F := F)) 𝒱₀ (thr d L) none) Set.univ
          (k0_t2_body L xW (Memref.isWhole_whole _) oW (Memref.isWhole_whole _) bW (Memref.isWhole_whole _) hW (Memref.isWhole_whole _) cc0_scratch2 cc0_scratch3 cc0_scoped0
            (Scalar.muli (Scalar.addi (Scalar.muli (BitVec.ofNat 32 (L 1).val) 2#32) (BitVec.ofNat 32 (L 0).val)) 8192#32)
            (k0_pay18 (F := F)) k0_pay19 k0_pay20 k0_pay21 k0_pay22 k0_pay23 k0_pay24 k0_pay25 k0_pay26 t a)
          (inv2 d L x qa qb O W (t.val + 1)) := by
  have ht : t.val < 32 := lt_of_lt_of_eq t.isLt (show k0_t2_loop.trips = 32 by decide)
  have h1 := cond1_true t
  by_cases h2 : k0_cond2 t = 1#1
  · have ht2 := (cond2_iff t).mp h2
    unfold k0_t2_body
    simp only [k0_part7_eq_skeleton]
    unfold k0_part7_skel inv2 slotBefore
    rw [if_pos ht]
    simp only [h1, h2, ↓reduceDIte, Prog.lift, Prog.bind_op, Prog.bind_ret, Prog.pure_eq_ret, bind_assoc]
    iintro ⟨#Hlv, Hh, Hxb, ⟨%f1, Hb1⟩, Hs1, HF0, %W', %hW', HO⟩
    iapply (wp_start d L 1 (by decide) (off := ![1, 0, 0]) rfl (base L + (256 * t.val + 128)) (off3_base L t) x (sem := cc0_scratch3.sem)) $$ [Hxb Hb1 Hs1]
    · isplitl [Hxb]; · iexact Hxb
      isplitl [Hb1]; · iexact Hb1
      iexact Hs1
    iintro HF1
    iapply (Transfers.wp_waitLocalO EC 𝒱₀ (thr d L) none none rfl) $$ [HF0 HO]
    · isplitl [HF0]; · iexact HF0
      isplitl [HO]; · iexact HO
      iapply ((K (F := F)).mayWait_none (SemLoc.dma cc0_scratch2.sem) hO); iexact Hlv
    iintro ⟨⟨Hb0, Hxa⟩, Hs0, HO⟩
    iapply (row3_loop d L (rowsOf (F := F) x (base L)) (256 * t.val) _ t _ _ _ (XB_bix (F := F) x (base L) (256 * t.val) 0 (by decide))) $$ [Hb0 Hh]
    · isplitl [Hb0] <;> iassumption
    iintro %v3 ⟨Hb0, Hh⟩
    iapply (wp_start d L 0 (by decide) (off := ![0, 0, 0]) rfl (base L + 256 * (t.val + 1)) (off13_base L t) x (sem := cc0_scratch2.sem)) $$ [Hxa Hb0 Hs0]
    · isplitl [Hxa]; · iexact Hxa
      isplitl [Hb0]; · iexact Hb0
      iexact Hs0
    iintro HF0
    iapply (Transfers.wp_waitLocalO EC 𝒱₀ (thr d L) none none rfl) $$ [HF1 HO]
    · isplitl [HF1]; · iexact HF1
      isplitl [HO]; · iexact HO
      iapply ((K (F := F)).mayWait_none (SemLoc.dma cc0_scratch3.sem) hO); iexact Hlv
    iintro ⟨⟨Hb1, Hxb⟩, Hs1, HO⟩
    iapply (row4_loop d L (rowsOf (F := F) x (base L)) (256 * t.val + 128) _ (XB_bix (F := F) x (base L) (256 * t.val + 128) 1 (by decide))) $$ [Hb1 Hh]
    · isplitl [Hb1] <;> iassumption
    iintro %v4 ⟨Hb1, Hh⟩
    rw [wp_ret]; imodintro
    rw [if_pos (show t.val + 1 < 32 by omega)]
    isplitr; · iexact Hlv
    isplitl [Hh]; · iexact Hh
    isplitl [Hxb]; · iexact Hxb
    isplitl [Hb1]; · iexists _; iexact Hb1
    isplitl [Hs1]; · iexact Hs1
    isplitl [HF0]; · iexact HF0
    iexists (insert (SemLoc.dma cc0_scratch3.sem, none) (insert (SemLoc.dma cc0_scratch2.sem, none) W')); isplitr
    · ipureintro; exact ins_none (ins_none hW' _) _
    · iexact HO
  · have ht2 : ¬ t.val < 31 := fun h => h2 ((cond2_iff t).mpr h)
    unfold k0_t2_body
    simp only [k0_part7_eq_skeleton]
    unfold k0_part7_skel inv2 slotBefore
    rw [if_pos ht]
    simp only [h1, h2, ↓reduceDIte, Prog.lift, Prog.bind_op, Prog.bind_ret, Prog.pure_eq_ret, bind_assoc]
    iintro ⟨#Hlv, Hh, Hxb, ⟨%f1, Hb1⟩, Hs1, HF0, %W', %hW', HO⟩
    iapply (wp_start d L 1 (by decide) (off := ![1, 0, 0]) rfl (base L + (256 * t.val + 128)) (off3_base L t) x (sem := cc0_scratch3.sem)) $$ [Hxb Hb1 Hs1]
    · isplitl [Hxb]; · iexact Hxb
      isplitl [Hb1]; · iexact Hb1
      iexact Hs1
    iintro HF1
    iapply (Transfers.wp_waitLocalO EC 𝒱₀ (thr d L) none none rfl) $$ [HF0 HO]
    · isplitl [HF0]; · iexact HF0
      isplitl [HO]; · iexact HO
      iapply ((K (F := F)).mayWait_none (SemLoc.dma cc0_scratch2.sem) hO); iexact Hlv
    iintro ⟨⟨Hb0, Hxa⟩, Hs0, HO⟩
    iapply (row3_loop d L (rowsOf (F := F) x (base L)) (256 * t.val) _ t _ _ _ (XB_bix (F := F) x (base L) (256 * t.val) 0 (by decide))) $$ [Hb0 Hh]
    · isplitl [Hb0] <;> iassumption
    iintro %v3 ⟨Hb0, Hh⟩
    iapply (Transfers.wp_waitLocalO EC 𝒱₀ (thr d L) none none rfl) $$ [HF1 HO]
    · isplitl [HF1]; · iexact HF1
      isplitl [HO]; · iexact HO
      iapply ((K (F := F)).mayWait_none (SemLoc.dma cc0_scratch3.sem) hO); iexact Hlv
    iintro ⟨⟨Hb1, Hxb⟩, Hs1, HO⟩
    iapply (row4_loop d L (rowsOf (F := F) x (base L)) (256 * t.val + 128) _ (XB_bix (F := F) x (base L) (256 * t.val + 128) 1 (by decide))) $$ [Hb1 Hh]
    · isplitl [Hb1] <;> iassumption
    iintro %v4 ⟨Hb1, Hh⟩
    rw [wp_ret]; imodintro
    rw [if_neg (show ¬ t.val + 1 < 32 by omega)]
    isplitr; · iexact Hlv
    isplitl [Hh]; · iexact Hh
    isplitl [Hxb]; · iexact Hxb
    isplitl [Hb1]; · iexists _; iexact Hb1
    isplitl [Hs1]; · iexact Hs1
    isplitl [Hb0 Hxa Hs0]
    · isplitl [Hb0]; · iexists _; iexact Hb0
      isplitl [Hxa]; · iexact Hxa
      iexact Hs0
    iexists (insert (SemLoc.dma cc0_scratch3.sem, none) (insert (SemLoc.dma cc0_scratch2.sem, none) W')); isplitr
    · ipureintro; exact ins_none (ins_none hW' _) _
    · iexact HO

/-! ## The zeroing loop -/

/-- The histogram buffer with its first `16 n` words zero. -/
def zeroed (n : ℕ) (h : S4096.Idx → F .f32) : S4096.Idx → F .f32 := fun p => if (p 0).val < 16 * n then zeroF else h p

theorem t1_body (h : S4096.Idx → F .f32) (t : Fin k0_t1_loop.trips) (a : BitVec 32) :
    (hLoc d L ↦{fullShare} zeroed t.val h : sProp 𝕄)
      ⊢ wp frame (wpE (defs₀ (F := F)) 𝒱₀ (thr d L) none) Set.univ
          (k0_t1_body L xW (Memref.isWhole_whole _) oW (Memref.isWhole_whole _) bW (Memref.isWhole_whole _) hW (Memref.isWhole_whole _) cc0_scratch2 cc0_scratch3 cc0_scoped0 t a)
          (fun _ => hLoc d L ↦{fullShare} zeroed (t.val + 1) h) := by
  unfold k0_t1_body
  simp only [Prog.lift, Prog.bind_op, Prog.bind_ret, Prog.pure_eq_ret]
  iintro Hh
  iapply (wp_load 𝒱₀ (thr d L) none Set.univ (m := hW) (S := Finset.univ) (q := fullShare) (f := zeroed t.val h) (Finset.subset_univ _)) $$ Hh
  iintro Hh
  ihave Hh' := (Entails.of_eq (show (hLoc d L ↦{fullShare} zeroed t.val h : sProp 𝕄)
    = (((hW).access (Rect.unit (s := S4096) (k0_off1 t) S16.size (k0_off1_inb t))).loc (thr d L) ↦{fullShare} zeroed t.val h) from rfl)) $$ Hh
  iapply (wp_store 𝒱₀ (thr d L) none Set.univ (m := hW) (r := Rect.unit (s := S4096) (k0_off1 t) S16.size (k0_off1_inb t)) (Mk := Finset.univ) (S := Finset.univ)
    (f := zeroed t.val h) (Finset.subset_univ _)) $$ Hh'
  iintro Hh
  rw [wp_ret]; imodintro
  rw [show (zeroed (t.val + 1) h) = ((hW).access (Rect.unit (s := S4096) (k0_off1 t) S16.size (k0_off1_inb t))).write (Elt F) (zeroed t.val h) (k0_pay17 (F := F)) Finset.univ from ?_]
  · iexact Hh
  have ho : k0_off1 t 0 = 16 * t.val := congrFun (k0_off1_eq t) 0
  funext p
  by_cases hp : 16 * t.val ≤ (p 0).val ∧ (p 0).val < 16 * t.val + 16
  · obtain ⟨y, hy⟩ : ∃ y : S16.Idx, ((hW).access (Rect.unit (s := S4096) (k0_off1 t) S16.size (k0_off1_inb t))).emb y = p := by
      refine ⟨(fun | 0 => ⟨(p 0).val - 16 * t.val, by show (p 0).val - 16 * t.val < 16; omega⟩ : S16.Idx), ?_⟩
      funext a
      obtain rfl : a = (0 : Fin 1) := Subsingleton.elim (α := Fin 1) _ _
      apply Fin.ext
      show k0_off1 t 0 + 1 * ((p 0).val - 16 * t.val) = (p 0).val
      omega
    rw [← hy, View.write_emb_of_mem _ _ (Finset.mem_univ y), hy]
    unfold zeroed
    rw [if_pos (by omega)]; rfl
  · rw [View.write_of_not_mem]
    · unfold zeroed
      by_cases h3 : (p 0).val < 16 * t.val
      · rw [if_pos h3, if_pos (by omega)]
      · rw [if_neg h3, if_neg (by omega)]
    · intro hm
      obtain ⟨y, -, e⟩ := Finset.mem_map.mp hm
      apply hp
      have hy : (y 0).val < 16 := (y 0).isLt
      have e0 : (p 0).val = k0_off1 t 0 + 1 * (y 0).val := congrArg (fun q : S4096.Idx => (q 0).val) e.symm
      omega

/-! ## The tile's row of the table -/

/-- The tile's number. -/
def wid (L : grid0.Coords) : ℕ := 2 * (L 1).val + (L 0).val

/-- The elements of one row of the table. -/
def rowSet (w : ℕ) : Finset S32x4096.Idx := Finset.univ.filter fun p => (p 0).val = w
theorem mem_rowSet {w : ℕ} {p : S32x4096.Idx} : p ∈ rowSet w ↔ (p 0).val = w := by simp [rowSet]

/-- A place of the table's row, in a histogram. -/
def inRow (p : S32x4096.Idx) : S4096.Idx := fun | 0 => p 1

abbrev rowM : Memref sig .scVector .hbm S4096 .f32 :=
  (Memref.slice (oW) (Rect.unit (s := S32x4096) (k0_off22 L) S1x4096.size (k0_off22_inb L)) (fun _ => rfl)).squeeze S4096 squeezes_S1x4096_S4096

theorem rowM_emb0 (y : S4096.Idx) : (((rowM L).view.emb y : S32x4096.Idx) 0).val = wid L := by
  have e : Shape.reshapeEquiv squeezes_S1x4096_S4096.numel_eq y = Fin.cons ⟨0, Nat.one_pos⟩ y :=
    Shape.reshapeEquiv_cons_one (d := ![4096]) _ y
  have ho : k0_off22 L 0 = wid L := congrFun (k0_off22_eq L) 0
  show ((Rect.unit (s := S32x4096) (k0_off22 L) S1x4096.size (k0_off22_inb L)).emb (Shape.reshapeEquiv squeezes_S1x4096_S4096.numel_eq y) 0).val = _
  rw [e]
  show k0_off22 L 0 + 1 * 0 = wid L
  omega
theorem rowM_emb1 (y : S4096.Idx) : (((rowM L).view.emb y : S32x4096.Idx) 1).val = (y 0).val := by
  have e : Shape.reshapeEquiv squeezes_S1x4096_S4096.numel_eq y = Fin.cons ⟨0, Nat.one_pos⟩ y :=
    Shape.reshapeEquiv_cons_one (d := ![4096]) _ y
  have ho : k0_off22 L 1 = 0 := congrFun (k0_off22_eq L) 1
  show ((Rect.unit (s := S32x4096) (k0_off22 L) S1x4096.size (k0_off22_inb L)).emb (Shape.reshapeEquiv squeezes_S1x4096_S4096.numel_eq y) 1).val = _
  rw [e]
  show k0_off22 L 1 + 1 * (y 0).val = (y 0).val
  omega

theorem rowM_set : ((rowM L).view.set : Finset S32x4096.Idx) = rowSet (wid L) := by
  ext p
  rw [mem_rowSet]
  constructor
  · intro h
    obtain ⟨y, -, e⟩ := Finset.mem_map.mp h
    rw [← e]; exact rowM_emb0 L y
  · intro h
    refine Finset.mem_map.mpr ⟨inRow p, Finset.mem_univ _, ?_⟩
    funext a
    apply Fin.ext
    fin_cases a
    · exact (rowM_emb0 L (inRow p)).trans h.symm
    · exact rowM_emb1 L (inRow p)

/-- The table: row `w` the histogram of the rows from `8192 w`. -/
def parts (x : S262144x128.Idx → F .f32) : S32x4096.Idx → F .f32 := fun p => histN (rowsOf x (8192 * (p 0).val)) 8192 (inRow p)

theorem base_wid : base L = 8192 * wid L := by unfold base wid; omega

/-- What the tile writes to its row. -/
theorem written (x : Buf (Elt F) (xLoc d)) (g : Buf (Elt F) (oLoc d)) (p : S32x4096.Idx) (hp : p ∈ rowSet (wid L)) :
    (rowM L).view.write (Elt F) g ((hW).view.read (Elt F) (histN (rowsOf (F := F) x (base L)) 8192)) Finset.univ p = parts (F := F) x p := by
  have h0 := mem_rowSet.mp hp
  obtain ⟨y, hy⟩ : ∃ y : S4096.Idx, (rowM L).view.emb y = p := by
    rw [← rowM_set L] at hp
    obtain ⟨y, -, e⟩ := Finset.mem_map.mp hp
    exact ⟨y, e⟩
  have hin : inRow p = y := by
    funext a
    obtain rfl : a = (0 : Fin 1) := Subsingleton.elim (α := Fin 1) _ _
    apply Fin.ext
    rw [← hy]; exact rowM_emb1 L y
  unfold parts
  rw [h0, hin, ← base_wid, ← hy, View.write_emb_of_mem _ _ (Finset.mem_univ y)]
  rfl

/-! ## The tile's own buffers and semaphores -/

omit [FloatOps F] in
theorem ownSems0_V :
    (ownSems0 (thr d L) : sProp 𝕄)
      = iprop(semVal (s0 d L) 0 ∗ semVal (s1 d L) 0 ∗ semVal (sR d L) 0
          ∗ bigSep ((((ownCells (thr d L)).erase (s0 d L)).erase (s1 d L)).erase (sR d L)) fun g => semVal g 0) := by
  unfold SparseCore.Cfg.ownSems0
  rw [SparseCore.bigSep_erase' ((mem_ownCells (g := s0 d L)).mpr ⟨rfl, by
      show (SemLoc.dma cc0_scratch2.sem : SemLoc sig).isScoped .scVector = true; decide⟩),
    SparseCore.bigSep_erase' (Finset.mem_erase.mpr ⟨by simp [s0, s1]; decide, (mem_ownCells (g := s1 d L)).mpr ⟨rfl, by
      show (SemLoc.dma cc0_scratch3.sem : SemLoc sig).isScoped .scVector = true; decide⟩⟩),
    SparseCore.bigSep_erase' (Finset.mem_erase.mpr ⟨by simp [s1, sR]; decide, Finset.mem_erase.mpr ⟨by simp [s0, sR]; decide,
      (mem_ownCells (g := sR d L)).mpr ⟨rfl, by show (SemLoc.dma cc0_scoped0.sem : SemLoc sig).isScoped .scVector = true; decide⟩⟩⟩)]

omit [FloatOps F] in
theorem ownBufs_V :
    (ownBufs (thr d L) : sProp 𝕄)
      = iprop((∃ f, bLoc d L ↦{fullShare} f) ∗ (∃ f, hLoc d L ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- The row buffer is its two slots. -/
theorem b_slots (f : Buf (Elt F) (bLoc d L)) :
    (bLoc d L ↦{fullShare} f : sProp 𝕄) ⊣⊢ iprop((bLoc d L ↦[slotSet 0]{fullShare} f) ∗ (bLoc d L ↦[slotSet 1]{fullShare} f)) := by
  have e : (Finset.univ : Finset S2x128x128.Idx) \ slotSet 0 = slotSet 1 := by
    ext p
    have : (p 0).val < 2 := (p 0).isLt
    rw [Finset.mem_sdiff, mem_slotSet, mem_slotSet]
    simp only [Finset.mem_univ, true_and]; omega
  have h := pointsTo_split_subset (Val := Elt F) (Ix := HIx 1) (Name := ℕ) (U := UU) (Lvl := ℕ) (ℓ := bLoc d L) (q := fullShare) (f := f) (Finset.subset_univ (slotSet 0))
  have e' : ((Finset.univ : Finset (Idx (bLoc d L))) \ slotSet 0) = slotSet 1 := e
  rw [e'] at h
  exact h

omit [FloatOps F] in
/-- The row buffer back together, from its two slots at whatever they hold. -/
theorem b_join (f g : Buf (Elt F) (bLoc d L)) :
    (iprop((bLoc d L ↦[slotSet 0]{fullShare} f) ∗ (bLoc d L ↦[slotSet 1]{fullShare} g)) : sProp 𝕄) ⊢ iprop(∃ h, bLoc d L ↦{fullShare} h) := by
  iintro ⟨H0, H1⟩
  iexists (fun p : S2x128x128.Idx => if (p 0).val = 0 then f p else g p)
  iapply (b_slots d L _).2
  isplitl [H0]
  · iapply (Entails.of_eq (pointsTo_congr (ℓ := bLoc d L) (q := fullShare) (fun p hp => (if_pos (mem_slotSet.mp hp)).symm))); iexact H0
  · iapply (Entails.of_eq (pointsTo_congr (ℓ := bLoc d L) (q := fullShare) (fun p hp => (if_neg (by have := mem_slotSet.mp hp; omega)).symm))); iexact H1

/-! ## The task -/

set_option maxHeartbeats 1000000 in
theorem tile_body (x : Buf (Elt F) (xLoc d)) (qa qb : PosShare TreeShare) (hF : (K (F := F)).Facts)
    (O : CellTallies nD τ sig (HIx 1)) (W : Waits sig (HIx 1)) (hO : ∀ g, O g none = 0) (fo : Buf (Elt F) (oLoc d)) :
    (iprop(levAts (K (F := F)).L (K (F := F)).lev ∗ emp
        ∗ ((xLoc d ↦{qa} x) ∗ (xLoc d ↦{qb} x) ∗ (oLoc d ↦[rowSet (wid L)]{fullShare} fo))
        ∗ scopedBufs (thr d L) ∗ scopedSems0 (thr d L) ∗ owes (thr d L) O W) : sProp 𝕄)
      ⊢ wp frame (wpE (defs₀ (F := F)) 𝒱₀ (thr d L) none) Set.univ
          (cc0_sc_hist L xW (Memref.isWhole_whole _) oW (Memref.isWhole_whole _) bW (Memref.isWhole_whole _) hW (Memref.isWhole_whole _) cc0_scratch2 cc0_scratch3 cc0_scoped0)
          fun _ => iprop(((xLoc d ↦{qa} x) ∗ (xLoc d ↦{qb} x) ∗ (oLoc d ↦[rowSet (wid L)]{fullShare} parts (F := F) x))
            ∗ scopedBufs (thr d L) ∗ scopedSems0 (thr d L)
            ∗ ∃ W', ⌜∀ p ∈ W', p ∈ W ∨ p.2 = none⌝ ∗ owes (thr d L) O W') := by
  simp only [cc0_sc_hist_eq_skeleton]; unfold cc0_sc_hist_skel
  simp only [k0_part8_eq_skeleton]; unfold k0_part8_skel
  simp only [Prog.lift, Prog.bind_op, Prog.bind_ret, Prog.pure_eq_ret, bind_assoc]
  rw [(K (F := F)).scopedBufs_V hF d (cV L) (jV L), SparseCore.Cfg.scopedSems0_V (Val := Elt F) d (cV L) (jV L), ownSems0_V, ownBufs_V]
  iintro ⟨#Hlv, -, ⟨Hxa, Hxb, Ho⟩, ⟨⟨%fb, Hb⟩, ⟨%fh, Hh⟩, Hbufs⟩, ⟨Hs0, Hs1, HsR, Hsems⟩, HO⟩
  -- the histogram zeroed
  iapply (Scf.wp_for_bind frame (wpE (defs₀ (F := F)) 𝒱₀ (thr d L) none) Set.univ _ _ _ k0_t1_ok 0#32 _
    (fun n _ => (hLoc d L ↦{fullShare} zeroed n fh : sProp 𝕄)) (fun t a => t1_body d L fh t a)) $$ [Hh]
  · rw [show zeroed (F := F) 0 fh = fh from funext fun p => if_neg (by omega)]
    iexact Hh
  iintro %v5 Hh
  rw [show zeroed (F := F) (Scf.trips k0_t1_loop.lb k0_t1_loop.ub k0_t1_loop.st) fh = histN (rowsOf (F := F) x (base L)) (256 * 0) from
    funext fun p => if_pos (by have : (p 0).val < 4096 := (p 0).isLt; rw [show Scf.trips k0_t1_loop.lb k0_t1_loop.ub k0_t1_loop.st = 256 by decide]; omega)]
  -- the first chunk started
  ihave Hb' := (b_slots d L fb).1 $$ Hb
  icases Hb' with ⟨Hb0, Hb1⟩
  iapply (wp_start d L 0 (by decide) (off := ![0, 0, 0]) rfl (base L + 256 * 0) (off2_base L) x (sem := cc0_scratch2.sem)) $$ [Hxa Hb0 Hs0]
  · isplitl [Hxa]; · iexact Hxa
    isplitl [Hb0]; · iexact Hb0
    iexact Hs0
  iintro HF0
  -- the chunks
  iapply (Scf.wp_for_bind frame (wpE (defs₀ (F := F)) 𝒱₀ (thr d L) none) Set.univ _ _ _ k0_t2_ok 0#32 _
    (inv2 d L x qa qb O W) (fun t a => t2_body d L x qa qb O W hO t a)) $$ [Hh Hxb Hb1 Hs1 HF0 HO]
  · unfold inv2 slotBefore
    rw [if_pos (by decide)]
    isplitr; · iexact Hlv
    isplitl [Hh]; · iexact Hh
    isplitl [Hxb]; · iexact Hxb
    isplitl [Hb1]; · iexists _; iexact Hb1
    isplitl [Hs1]; · iexact Hs1
    isplitl [HF0]; · iexact HF0
    iexists W; isplitr
    · ipureintro; exact fun p hp => .inl hp
    · iexact HO
  iintro %v32 HI
  unfold inv2 slotBefore
  rw [if_neg (by decide)]
  icases HI with ⟨-, Hh, Hxb, ⟨%f1, Hb1⟩, Hs1, ⟨⟨%f0, Hb0⟩, Hxa, Hs0⟩, %W', %hW', HO⟩
  rw [show histN (rowsOf (F := F) x (base L)) (256 * Scf.trips k0_t2_loop.lb k0_t2_loop.ub k0_t2_loop.st) = histN (rowsOf (F := F) x (base L)) 8192 from
    congrArg _ (by decide)]
  -- the histogram written out
  ihave Hh' := (Entails.of_eq (show (hLoc d L ↦{fullShare} histN (rowsOf (F := F) x (base L)) 8192 : sProp 𝕄)
    = ((hW).view.loc (thr d L) ↦[(hW).view.set]{fullShare} histN (rowsOf (F := F) x (base L)) 8192) from by simp only [Memref.view_whole, View.set_whole])) $$ Hh
  iapply (Transfers.wp_dmaLocal EC 𝒱₀ (thr d L) none (src := hW) (dst := rowM L) (q := fullShare) (fs := histN (rowsOf (F := F) x (base L)) 8192) (Sd := rowSet (wid L)) (fd := fo)
    (sm := .dma cc0_scoped0.sem) none (rowM L).view.dmaCredit rfl (View.dmaCredit_pos _ (show 0 < S4096.numel by decide))
    (by rw [rowM_set L])) $$ [Hh' Ho HsR]
  · isplitl [Hh']; · iexact Hh'
    isplitl [Ho]; · iexact Ho
    iexact HsR
  iintro HF
  iapply (Transfers.wp_waitLocalO EC 𝒱₀ (thr d L) none none rfl) $$ [HF HO]
  · isplitl [HF]; · iexact HF
    isplitl [HO]; · iexact HO
    iapply ((K (F := F)).mayWait_none (SemLoc.dma cc0_scoped0.sem) hO); iexact Hlv
  iintro ⟨⟨Ho, Hh'⟩, HsR, HO⟩
  rw [wp_ret]; imodintro
  isplitl [Hxa Hxb Ho]
  · isplitl [Hxa]; · iexact Hxa
    isplitl [Hxb]; · iexact Hxb
    iapply (Entails.of_eq (pointsTo_congr (ℓ := oLoc d) (q := fullShare) (written d L x fo))); iexact Ho
  isplitl [Hb0 Hb1 Hh' Hbufs]
  · isplitl [Hb0 Hb1]
    · iapply (b_join d L f0 f1); isplitl [Hb0] <;> iassumption
    isplitl [Hh']
    · iexists (histN (rowsOf (F := F) x (base L)) 8192)
      iapply (Entails.of_eq (show ((hW).view.loc (thr d L) ↦[(hW).view.set]{fullShare} histN (rowsOf (F := F) x (base L)) 8192 : sProp 𝕄)
        = (hLoc d L ↦{fullShare} histN (rowsOf (F := F) x (base L)) 8192) from by simp only [Memref.view_whole, View.set_whole])); iexact Hh'
    · iexact Hbufs
  isplitl [Hs0 Hs1 HsR Hsems]
  · isplitl [Hs0]; · iexact Hs0
    isplitl [Hs1]; · iexact Hs1
    isplitl [HsR]; · iexact HsR
    iexact Hsems
  iexists (insert (SemLoc.dma cc0_scoped0.sem, none) W'); isplitr
  · ipureintro; exact ins_none hW' _
  · iexact HO

end Cert.Proof.HistI

end
-- ==== Proof.HistI.Region.lean ====
/-
  The TensorCore kernel after the SparseCore call: a pipeline of one point whose body multiplies the per-tile histograms with the bin
  indicator. Its region is entered holding the regrouped histograms and the result array, and leaves the result array at the
  kernel's value of them.
-/
module

public import proofs.«01_k».proof.Proof.HistI.Setup
public import proofs.«01_k».proof.Proof.Gen.KernelIdeal.Launch
public import proofs.«01_k».proof.Proof.Gen.KernelIdeal.Points
public import proofs.«01_k».proof.Proof.Gen.KernelIdeal.Skeleton

@[expose] public section

noncomputable section

namespace Cert.Proof.HistI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The pipeline's rounds: the middle factor. -/
def EP : Emb UP (MT nD τ sig (HIx 1) (Elt F) ℕ UU ℕ) := (Emb.inl : Emb UP (UP × Counters)).trans embR

instance EP_landsIn : (EP : Emb UP 𝕄).LandsIn (upEmb : UEmb _ 𝕄) := by unfold EP; infer_instance

abbrev adm : (p : Fin 1) → (pcfgs (F := F) p).Adm := fun p => (cfgs p).toPCfg_adm

/-- The wait pairs the launch allows the TensorCore after the call. -/
def recd (d : Dev nD) : Set (SemLoc sig × HIx 1) := {p | (K (F := F)).lev (SparseCore.T d, p.1) p.2 ≤ 8 * (inferInstance : SparseCore.Cfg.Blocks 1 1).fst 1}

/-- The region's proof data: the regrouped histograms `y` and the result array's contents `fr` at entry; the result's staging buffer
    after the body. -/
def dat1 (y : (c : Dev nD) → Buf (Elt F) (pLoc c)) (fr : (c : Dev nD) → Buf (Elt F) (rLoc c)) (c : Dev nD) :
    Pipeline.Dat τ (Elt F) (HIx 1) ℕ UU ℕ cfg1 c where
  A w := match w with | 0 => y c | 1 => fr c
  after w t := match w with | 0 => y c | 1 => k1_pay1 (y c)
  Φ _ := BI.emp
  q _ := fullShare
  owed _ := 0
  recorded _ := recd (F := F) c

def pdats (y : (c : Dev nD) → Buf (Elt F) (pLoc c)) (fr : (c : Dev nD) → Buf (Elt F) (rLoc c)) :
    (p : Fin 1) → (c : Dev nD) → Pipeline.Dat τ (Elt F) (HIx 1) ℕ UU ℕ (Pipeline.pin (pcfgs (F := F)) adm p) c
  | 0 => dat1 y fr

variable (y : (c : Dev nD) → Buf (Elt F) (pLoc c)) (fr : (c : Dev nD) → Buf (Elt F) (rLoc c))

theorem fetched1 (c : Dev nD) (d) : (dat1 y fr c).fetched 0 t1_0 d = y c := by
  have h : (dat1 y fr c).blockOf 0 t1_0 = y c := by
    funext j
    show y c (((cfg1.win 0).rect t1_0).emb j) = y c j
    exact congrArg (y c) (funext fun a => Fin.ext ((cfg1.win 0).rect_emb_val_of_index_zero t1_0 a rfl j))
  show (cfg1.win 0).fill (cfg1.grid.coords t1_0) d ((dat1 y fr c).blockOf 0 t1_0) = y c
  rw [h]
  funext j
  unfold Pipeline.Window.fill
  exact dif_pos (((cfg1.win 0).moved_iff _ j).mpr fun a => (j a).isLt)

/-- The result array after the pipeline. -/
theorem final1 (c : Dev nD) : (dat1 y fr c).arrAt 1 cfg1.N = k1_pay1 (y c) := by
  refine Pipeline.Dat.arrAt_eq_of_cover (cfg := cfg1) (dat1 y fr c) 1 (k1_pay1 (y c)) (fun t _ => ?_) fun i => ⟨t1_0, flush1_1 t1_0, ?_⟩
  · obtain rfl := fin_N1 t
    funext j
    show k1_pay1 (y c) j = k1_pay1 (y c) (((cfg1.win 1).rect t1_0).emb j)
    exact (congrArg (k1_pay1 (y c)) (funext fun a => Fin.ext ((cfg1.win 1).rect_emb_val_of_index_zero t1_0 a rfl j))).symm
  · refine Finset.mem_map.mpr ⟨i, Finset.mem_univ _, ?_⟩
    show ((cfg1.win 1).rect t1_0).emb i = i
    exact funext fun a => Fin.ext ((cfg1.win 1).rect_emb_val_of_index_zero t1_0 a rfl i)

theorem slot1_0 : (cfg1.win 0).stage (cfg1.slots t1_0 0) = Memref.whole cc1_stg0_0 := by
  rw [show cfg1.slots t1_0 0 = ⟨0, by decide⟩ from Subsingleton.elim (α := Fin 1) _ _]
theorem slot1_1 : (cfg1.win 1).stage (cfg1.slots t1_0 1) = Memref.whole cc1_stg1_0 := by
  rw [show cfg1.slots t1_0 1 = ⟨0, by decide⟩ from Subsingleton.elim (α := Fin 1) _ _]

/-- The kernel's load of its whole operand buffer reads the contents. -/
theorem load1 (g : S1024x128.Idx → Elt F .f32) : (Memref.whole cc1_stg0_0).view.readAt (Elt F) (Rect.unit (s := S1024x128) ![0, 0] S1024x128.size inb_S1024x128_S1024x128_0_0).toLoadRect g = g := by
  funext j
  refine congrArg g (funext fun a => Fin.ext ?_)
  fin_cases a
  · show 0 + 1 * (j 0).val = (j 0).val; omega
  · show 0 + 1 * (j 1).val = (j 1).val; omega

/-- Its store of the whole result buffer leaves what is stored. -/
theorem store1 (g w : S128x32.Idx → Elt F .f32) :
    ((Memref.whole cc1_stg1_0).access (Rect.unit (s := S128x32) ![0, 0] S128x32.size inb_S128x32_S128x32_0_0)).write (Elt F) g w Finset.univ = w := by
  funext j
  have h := View.write_emb_of_mem (Val := Elt F) (v := (Memref.whole cc1_stg1_0).access (Rect.unit (s := S128x32) ![0, 0] S128x32.size inb_S128x32_S128x32_0_0)) g w (Finset.mem_univ j)
  rwa [show ((Memref.whole cc1_stg1_0).access (Rect.unit (s := S128x32) ![0, 0] S128x32.size inb_S128x32_S128x32_0_0)).emb j = j from ?_] at h
  refine funext fun a => Fin.ext ?_
  fin_cases a
  · show 0 + 1 * (j 0).val = (j 0).val; omega
  · show 0 + 1 * (j 1).val = (j 1).val; omega

/-- The kernel body: the result buffer ends at its value of the operand buffer. -/
theorem cc1_run (c : Dev nD) (f0 : S1024x128.Idx → Elt F .f32) (f1 : S128x32.Idx → Elt F .f32) (Q : PUnit → sProp 𝕄) :
    (iprop(owns (c.tc : Thread nD τ) (Memref.whole cc1_stg0_0) fullShare f0 ∗ owns (c.tc : Thread nD τ) (Memref.whole cc1_stg1_0) fullShare f1
        ∗ ((owns (c.tc : Thread nD τ) (Memref.whole cc1_stg0_0) fullShare f0 ∗ owns (c.tc : Thread nD τ) (Memref.whole cc1_stg1_0) fullShare (k1_pay1 f0)) -∗ Q ⟨⟩)) : sProp 𝕄)
      ⊢ wp frame (wpE defs₀ 𝒱₀ (c.tc : Thread nD τ) none) Set.univ
          (cc1_body (Memref.whole cc1_stg0_0) (Memref.isWhole_whole _) (Memref.whole cc1_stg1_0) (Memref.isWhole_whole _)) Q := by
  rw [cc1_body_eq_skeleton]
  unfold cc1_body_skel
  simp only [Prog.lift, Prog.bind_op, Prog.bind_ret, Prog.pure_eq_ret]
  rw [owns_whole (c.tc : Thread nD τ) cc1_stg0_0, owns_whole (c.tc : Thread nD τ) cc1_stg1_0, owns_whole (c.tc : Thread nD τ) cc1_stg1_0]
  iintro ⟨H0, H1, Hk⟩
  iapply (wp_load 𝒱₀ (c.tc : Thread nD τ) none Set.univ (m := Memref.whole cc1_stg0_0) (S := Finset.univ) (q := fullShare) (f := f0) (Finset.subset_univ _)) $$ H0
  iintro H0
  iapply (wp_load 𝒱₀ (c.tc : Thread nD τ) none Set.univ (m := Memref.whole cc1_stg1_0) (S := Finset.univ) (q := fullShare) (f := f1) (Finset.subset_univ _)) $$ H1
  iintro H1
  ihave H1' := (Entails.of_eq (show (((c.tc : Thread nD τ).loc cc1_stg1_0) ↦{fullShare} f1 : sProp 𝕄)
    = (((Memref.whole cc1_stg1_0).access (Rect.unit (s := S128x32) ![0, 0] S128x32.size inb_S128x32_S128x32_0_0)).loc (c.tc : Thread nD τ) ↦{fullShare} f1) from rfl)) $$ H1
  iapply (wp_store 𝒱₀ (c.tc : Thread nD τ) none Set.univ (m := Memref.whole cc1_stg1_0) (r := Rect.unit (s := S128x32) ![0, 0] S128x32.size inb_S128x32_S128x32_0_0) (Mk := Finset.univ) (S := Finset.univ)
    (f := f1) (Finset.subset_univ _)) $$ H1'
  iintro H1
  rw [wp_ret]; imodintro
  rw [load1, store1]
  iapply Hk
  isplitl [H0]; · iexact H0
  iexact H1

/-- The body at the pipeline's only point. -/
theorem body1 (c : Dev nD) : Pipeline.BodyObligation (dat1 y fr c) defs₀ 𝒱₀ (none : HIx 1) Set.univ := fun t => by
  obtain rfl := fin_N1 t
  rw [bigSep_W1, bigSep_W1]
  rw [show (dat1 y fr c).Φ t1_0.castSucc = BI.emp from rfl, show (dat1 y fr c).Φ t1_0.succ = BI.emp from rfl,
    show (dat1 y fr c).owesAt none t1_0.succ = (dat1 y fr c).owesAt none t1_0.castSucc from rfl]
  iintro ⟨-, HO, ⟨%d0, H0⟩, ⟨%d1, H1⟩⟩
  rw [(dat1 y fr c).before_fetched 0 t1_0 (fetch1_0 t1_0) d0, fetched1]
  show _ ⊢ wp _ _ _ (cc1_body (Memref.whole cc1_stg0_0) (Memref.isWhole_whole _) (Memref.whole cc1_stg1_0) (Memref.isWhole_whole _)) _
  refine (show _ ⊢ _ from ?_).trans (cc1_run c (y c) ((dat1 y fr c).before 1 t1_0 d1) _)
  iintro ⟨⟨HO, H0⟩, H1⟩
  isplitl [H0]; · iexact H0
  isplitl [H1]; · iexact H1
  iintro ⟨H0, H1⟩
  isplitr; · iempintro
  isplitl [HO]; · iexact HO
  isplitl [H0]; · iexact H0
  iexact H1

/-! ## The region -/

abbrev lev1 : GSem nD τ sig → HIx 1 → ℕ := (K (F := F)).lev

/-- What the launch lets the TensorCore's waits record by its second call. -/
abbrev Below (c : Dev nD) (W : Waits sig (HIx 1)) : Prop := ∀ p ∈ W, p ∈ recd (F := F) c

theorem bigSep_none {M : Type} [URA M] (Φ : Fin 0 → sProp M) : bigSep Finset.univ Φ = (BI.emp : sProp M) :=
  bigSep_univ_eq_bigSepL [] (by decide) (by decide) Φ

theorem prefHeld1 (c : Dev nD) (q) (pf) :
    (Pipeline.prefHeld (Ix := HIx 1) (Name := ℕ) (U := UU) (Lvl := ℕ) (Val := Elt F) (pcfgs (F := F) 0).pre c q pf : sProp 𝕄) = BI.emp :=
  bigSep_none _

theorem arrays1 (c : Dev nD) (A) : ((pdats y fr 0 c).arrays A : sProp 𝕄) = iprop((pLoc c ↦{fullShare} A 0) ∗ (rLoc c ↦{fullShare} A 1)) := by
  unfold Pipeline.Dat.arrays
  refine (bigSep_W1 _).trans (congrArg₂ _ ?_ ?_)
  · show (pLoc c ↦[(Memref.whole main_v2).view.set]{fullShare} A 0 : sProp 𝕄) = _
    rw [View.set_whole]
  · show (rLoc c ↦[(Memref.whole main_v3).view.set]{fullShare} A 1 : sProp 𝕄) = _
    rw [View.set_whole]

/-- The wait pairs of the pipeline's own loop are at the call index, which has level zero. -/
theorem below_mono (c : Dev nD) (W : Waits sig (HIx 1)) (h : ∀ p ∈ W, p ∈ (dat1 y fr c).bound none (Fin.last cfg1.N)) : Below (F := F) c W := by
  intro p hp
  rcases h p hp with h | h
  · exact h
  · obtain ⟨w, s, rfl⟩ := h
    show (K (F := F)).lev _ none ≤ _
    rw [SparseCore.Cfg.lev_none]
    exact Nat.zero_le _

def reg (L : GSem nD τ sig → Finset (HIx 1)) (lv : GSem nD τ sig → HIx 1 → ℕ) :
    Pipeline.RegionSeg (Name := ℕ) (U := UU) (pcfgs (F := F)) adm (pdats y fr) (none : HIx 1) defs₀ 𝒱₀ L lv 0 where
  win := launch1.win.to₀
  block_pos := block_pos1
  stage_whole := stage_whole1
  K := PEmpty
  osem k := k.elim
  ho := Pipeline.OwnSemFacts.none _
  hbody c := (body1 y fr c).loose
  hwaits := Pipeline.hwaits_of_owed_zero _ _ _ _ L lv 0 fun _ _ => rfl
  pre c := iprop((pLoc c ↦{fullShare} y c) ∗ (rLoc c ↦{fullShare} fr c) ∗ ∃ W, ⌜Below (F := F) c W⌝ ∗ owes (c.tc : Thread nD τ) (0 : CellTallies nD τ sig (HIx 1)) W)
  post c := iprop((pLoc c ↦{fullShare} y c) ∗ (rLoc c ↦{fullShare} k1_pay1 (y c)) ∗ ∃ W, ⌜Below (F := F) c W⌝ ∗ owes (c.tc : Thread nD τ) (0 : CellTallies nD τ sig (HIx 1)) W)
  X _ := BI.emp
  Y _ := BI.emp
  Z _ := BI.emp
  hentry c := by
    rw [Pipeline.ownSems0_none, arrays1, prefHeld1]
    iintro ⟨⟨Hp, Hr, %W, %hW, HO⟩, -, -⟩
    imodintro
    isplitl [Hp Hr]
    · isplitl [Hp]; · iexact Hp
      iexact Hr
    isplitr; · iempintro
    isplitl [HO]
    · unfold Pipeline.Dat.owesAt Pipeline.owesWithin
      iexists W; isplitr; · ipureintro; exact fun p hp => Or.inl (hW p hp)
      iexact HO
    isplitr <;> iempintro
  hin c := by
    rw [show (pdats y fr 0 c).Φ 0 = BI.emp from rfl]
    iintro ⟨-, -, -⟩; iempintro
  hout c := by
    rw [show (pdats y fr 0 c).Φ (Fin.last _) = BI.emp from rfl, Pipeline.ownSems0_none, scopedRest1_eq]
    iintro -
    isplitr; · iempintro
    isplitr <;> iempintro
  hexit c := by
    rw [arrays1, show (pdats y fr 0 c).arrAt 1 (Pipeline.pin (pcfgs (F := F)) adm 0).N = k1_pay1 (y c) from final1 y fr c]
    iintro ⟨⟨Hp, Hr⟩, HO, -, -⟩
    imodintro
    isplitl [Hp]; · iexact Hp
    isplitl [Hr]; · iexact Hr
    unfold Pipeline.Dat.owesAt Pipeline.owesWithin
    icases HO with ⟨%W, %hW, HO⟩
    iexists W; isplitr; · ipureintro; exact below_mono y fr c W hW
    iexact HO

end Cert.Proof.HistI

end
-- ==== Proof.HistI.Launch.lean ====
/-
  The histogram kernel's launch: what the SparseCore call's handshakes carry, the split of its operands among the tiles, @main on the
  TensorCore (the two regroupings, the call, the pipeline), and the program's run: every array the claims speak of at its value.
-/
module

public import proofs.«01_k».proof.Proof.HistI.Tile
public import proofs.«01_k».proof.Proof.HistI.Region

@[expose] public section

noncomputable section

namespace Cert.Proof.HistI

open Cert.KernelIdeal Cert.KernelIdeal.Gen

open Idealize.ShloMosaic
open Idealize.ShloMosaic.SparseCore (S V T)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

-- the kernel's memrefs, spelt as the body table passes them
local notation "xW" => (Memref.whole Cert.KernelIdeal.main_v0_scv : Memref Cert.KernelIdeal.sig Kind.scVector Space.hbm Cert.KernelIdeal.S262144x128 EltTy.f32)
local notation "oW" => (Memref.whole Cert.KernelIdeal.main_v1_scv : Memref Cert.KernelIdeal.sig Kind.scVector Space.hbm Cert.KernelIdeal.S32x4096 EltTy.f32)
local notation "bW" => (Memref.whole Cert.KernelIdeal.cc0_scratch0 : Memref Cert.KernelIdeal.sig Kind.scVector Space.vmem Cert.KernelIdeal.S2x128x128 EltTy.f32)
local notation "hW" => (Memref.whole Cert.KernelIdeal.cc0_scratch1 : Memref Cert.KernelIdeal.sig Kind.scVector Space.vmem Cert.KernelIdeal.S4096 EltTy.f32)

variable (m : (ℓ : Loc nD τ sig) → Buf (Elt F) ℓ) (ρ : Dev nD → PrngReg)

/-! ## The values -/

/-- The input as rows. -/
def xm (d : Dev nD) : Buf (Elt F) (xLoc d) := shapeCast S262144x128 (m (aLoc d) : S1x262144x128.Idx → Elt F .f32) shapeCasts_S1x262144x128_S262144x128
/-- The tiles' histograms, regrouped. -/
def ym (d : Dev nD) : Buf (Elt F) (pLoc d) := shapeCast S1024x128 (parts (xm m d)) shapeCasts_S32x4096_S1024x128

/-! ## Shares and rows -/

theorem deal (n : ℕ) (hn : 0 < n) (ℓ : Loc nD τ sig) (I : Finset (Idx ℓ)) (q : PosShare TreeShare) (f : Buf (Elt F) ℓ) :
    (ℓ ↦[I]{q} f : sProp 𝕄) = bigSep Finset.univ fun i : Fin n => ℓ ↦[I]{Transfers.dealShare q n i.val} f := by
  haveI : Nonempty (Fin n) := ⟨⟨0, hn⟩⟩
  rw [Transfers.pointsTo_deal (Finset.univ : Finset (Fin n)) Finset.univ_nonempty q]
  refine bigSep_congr fun i _ => ?_
  unfold Transfers.dealOf
  rw [Finset.card_fin, show (Finset.univ.filter fun x : Fin n => x < i) = Finset.Iio i by ext x; simp, Fin.card_Iio]

/-- The read share of core `c`, of its tile `i`, and the two of that tile. -/
def shC (c : ℕ) : PosShare TreeShare := Transfers.dealShare fullShare 2 c
def shT (c i : ℕ) : PosShare TreeShare := Transfers.dealShare (shC c) 16 i
def shH (c i k : ℕ) : PosShare TreeShare := Transfers.dealShare (shT c i) 2 k

/-- The rows of the partial histograms core `c`'s tiles write. -/
def coreSet (c : ℕ) : Finset S32x4096.Idx := Finset.univ.filter fun p => (p 0).val % 2 = c

theorem coreSet_disj : ∀ i ∈ (Finset.univ : Finset (Fin 2)), ∀ j ∈ (Finset.univ : Finset (Fin 2)), i ≠ j → Disjoint (coreSet i.val) (coreSet j.val) := by
  intro i _ j _ h
  refine Finset.disjoint_left.mpr fun p hi hj => h (Fin.ext ?_)
  exact ((Finset.mem_filter.mp hi).2).symm.trans (Finset.mem_filter.mp hj).2

theorem coreSet_cover : (Finset.univ : Finset (Fin 2)).biUnion (fun c => coreSet c.val) = Finset.univ := by
  ext p
  simp only [Finset.mem_biUnion, Finset.mem_univ, true_and, iff_true]
  exact ⟨⟨(p 0).val % 2, Nat.mod_lt _ (by decide)⟩, by simp [coreSet]⟩

theorem rowSet_disj (c : ℕ) : ∀ i ∈ (Finset.univ : Finset (Fin 16)), ∀ j ∈ (Finset.univ : Finset (Fin 16)), i ≠ j → Disjoint (rowSet (2 * i.val + c)) (rowSet (2 * j.val + c)) := by
  intro i _ j _ h
  refine Finset.disjoint_left.mpr fun p hi hj => h (Fin.ext ?_)
  have h1 := mem_rowSet.mp hi; have h2 := mem_rowSet.mp hj; omega

theorem rowSet_cover (c : ℕ) (hc : c < 2) : (Finset.univ : Finset (Fin 16)).biUnion (fun i => rowSet (2 * i.val + c)) = coreSet c := by
  ext p
  have hp : (p 0).val < 32 := (p 0).isLt
  simp only [Finset.mem_biUnion, Finset.mem_univ, true_and, mem_rowSet, coreSet, Finset.mem_filter]
  constructor
  · rintro ⟨i, hi⟩; omega
  · intro h; exact ⟨⟨(p 0).val / 2, by omega⟩, by show _ = 2 * ((p 0).val / 2) + c; omega⟩

theorem o_cores (d : Dev nD) (f : Buf (Elt F) (oLoc d)) :
    (oLoc d ↦{fullShare} f : sProp 𝕄) = bigSep Finset.univ fun c : Fin 2 => oLoc d ↦[coreSet c.val]{fullShare} f := by
  rw [← pointsTo_biUnion Finset.univ (ℓ := oLoc d) (fun c : Fin 2 => coreSet c.val) coreSet_disj, coreSet_cover]; try rfl
theorem o_rows (d : Dev nD) (c : ℕ) (hc : c < 2) (f : Buf (Elt F) (oLoc d)) :
    (oLoc d ↦[coreSet c]{fullShare} f : sProp 𝕄) = bigSep Finset.univ fun i : Fin 16 => oLoc d ↦[rowSet (2 * i.val + c)]{fullShare} f := by
  rw [← pointsTo_biUnion Finset.univ (ℓ := oLoc d) (fun i : Fin 16 => rowSet (2 * i.val + c)) (rowSet_disj c), rowSet_cover c hc]; try rfl

/-! ## What the handshakes carry -/

abbrev corePts (d : Dev nD) (c : ℕ) (f : Buf (Elt F) (oLoc d)) : sProp 𝕄 :=
  iprop((xLoc d ↦{shC c} xm m d) ∗ (oLoc d ↦[coreSet c]{fullShare} f))
abbrev tilePts (d : Dev nD) (c i : ℕ) (f : Buf (Elt F) (oLoc d)) : sProp 𝕄 :=
  iprop((xLoc d ↦{shH c i 0} xm m d) ∗ (xLoc d ↦{shH c i 1} xm m d) ∗ (oLoc d ↦[rowSet (2 * i + c)]{fullShare} f))

/-- The call deals each SparseCore a read share of the input and its rows of the partial histograms, each tile two read shares and
    its row, and brings the rows back holding the tiles' histograms. -/
def P : (K (F := F)).Pay (nD := nD) (Val := Elt F) (Name := ℕ) (U := UU) where
  st := fun q d c => match q with | 0 => corePts m d c.val (m (oLoc d))
  dn := fun q d c => match q with | 0 => corePts m d c.val (parts (xm m d))
  go := fun q d c i => match q with | 0 => tilePts m d c.val i.val (m (oLoc d))
  td := fun q d c i => match q with | 0 => tilePts m d c.val i.val (parts (xm m d))
  x := fun _ _ => iprop(emp)

instance P_storable : (P (F := F) m).IsStorable where
  st q d c := match q with | 0 => (inferInstance : BI.Storable (upEmb : UEmb _ 𝕄) (corePts m d c.val (m (oLoc d))))
  dn q d c := match q with | 0 => (inferInstance : BI.Storable (upEmb : UEmb _ 𝕄) (corePts m d c.val (parts (xm m d))))
  go q d c i := match q with | 0 => (inferInstance : BI.Storable (upEmb : UEmb _ 𝕄) (tilePts m d c.val i.val (m (oLoc d))))
  td q d c i := match q with | 0 => (inferInstance : BI.Storable (upEmb : UEmb _ 𝕄) (tilePts m d c.val i.val (parts (xm m d))))

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_hist (coordsV c s)
          xW (Memref.isWhole_whole _) oW (Memref.isWhole_whole _) bW (Memref.isWhole_whole _) hW (Memref.isWhole_whole _)
          cc0_scratch2 cc0_scratch3 cc0_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 1024 in
theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) (xm m d) (shH c.val i.val 0) (shH c.val i.val 1) hF O W hO (m (oLoc d))).trans
    (wp_mono frame _ _ fun _ => obl_post)

theorem sep_assoc' (A B C : sProp 𝕄) : iprop((A ∗ B) ∗ C) = iprop(A ∗ B ∗ C) :=
  BI.Entails.antisymm
    (show (iprop((A ∗ B) ∗ C) : sProp 𝕄) ⊢ iprop(A ∗ B ∗ C) by
      iintro ⟨⟨H0, H1⟩, H2⟩
      isplitl [H0]; · iexact H0
      isplitl [H1] <;> iassumption)
    (show (iprop(A ∗ B ∗ C) : sProp 𝕄) ⊢ iprop((A ∗ B) ∗ C) by
      iintro ⟨H0, H1, H2⟩
      isplitr [H2]
      · isplitl [H0] <;> iassumption
      · iexact H2)

theorem core_eq (d : Dev nD) (c : ℕ) (hc : c < 2) (f : Buf (Elt F) (oLoc d)) :
    corePts m d c f = bigSep Finset.univ fun i : Fin 16 => tilePts m d c i.val f := by
  unfold corePts tilePts
  rw [bigSep_sep', bigSep_sep', deal 16 (by decide) (xLoc d) Finset.univ (shC c) (xm m d), o_rows d c hc f]
  have h (i : Fin 16) : (xLoc d ↦{Transfers.dealShare (shC c) 16 i.val} xm m d : sProp 𝕄)
      = iprop((xLoc d ↦{shH c i.val 0} xm m d) ∗ (xLoc d ↦{shH c i.val 1} xm m d)) := by
    rw [deal 2 (by decide) (xLoc d) Finset.univ (Transfers.dealShare (shC c) 16 i.val) (xm m d),
      show (Finset.univ : Finset (Fin 2)) = {0, 1} by decide, SparseCore.bigSep_insert' (by decide), bigSep_singleton]
    rfl
  rw [bigSep_congr fun i _ => h i, bigSep_sep']
  exact sep_assoc' _ _ _

theorem vecSplit : (K (F := F)).VecSplit' (P m) 0 := by
  intro d c
  show corePts m d c.val (m (oLoc d)) ⊢ |={Set.univ}=> iprop(
      (bigSep (Finset.univ : Finset (Fin 16)) fun i => tilePts m d c.val i.val (m (oLoc d)))
      ∗ ((bigSep (Finset.univ : Finset (Fin 16)) fun i => tilePts m d c.val i.val (parts (xm m d))) -∗ corePts m d c.val (parts (xm m d))))
  rw [← core_eq m d c.val c.isLt, ← core_eq m d c.val c.isLt]
  iintro H; imodintro
  isplitl [H]; · iexact H
  iintro H; iexact H

/-! ## The launch element of the ghost state -/

def u₀ : UU := (initOf (K (F := F)).hsCells (K (F := F)).hsToks,
  (initOf (Pipeline.cells (nD := nD) (τ := τ) (Pipeline.pin (pcfgs (F := F)) adm) cellOf_inj) (Pipeline.launchToks (nD := nD) (τ := τ) (Pipeline.pin (pcfgs (F := F)) adm) cellOf_inj), 1))

/-- The pipeline's ghost state, per device. -/
abbrev G (d : Dev nD) : sProp 𝕄 :=
  iprop(Pipeline.cellsGhost (Pipeline.pin (pcfgs (F := F)) adm) EP 0 d ∗ Pipeline.toksInit (Pipeline.pin (pcfgs (F := F)) adm) EP 0 d)

theorem ownU_split (a : UH) (b : UP) (c : Counters) : (ownU (a, (b, c)) : sProp 𝕄) ⊢ iprop(BI.own (EH a) ∗ BI.own (EP b)) := by
  have h1 : (ownU (a, (b, c)) : sProp 𝕄) ⊢ iprop(BI.own (EH a) ∗ BI.own ((embR : Emb (UP × Counters) 𝕄) (b, c))) := ownU_pair a (b, c)
  have h2 : (BI.own ((embR : Emb (UP × Counters) 𝕄) (b, c)) : sProp 𝕄)
      ⊢ iprop(BI.own ((embR : Emb (UP × Counters) 𝕄) (b, 1)) ∗ BI.own ((embR : Emb (UP × Counters) 𝕄) (1, c))) :=
    BI.own_op_elim ((embR : Emb (UP × Counters) 𝕄).op_of_mem (Prod.mk_mem_op (URA.mem_op_one b) (URA.mem_one_op c)))
  have h3 : iprop(BI.own ((embR : Emb (UP × Counters) 𝕄) (b, 1)) ∗ BI.own ((embR : Emb (UP × Counters) 𝕄) (1, c))) ⊢ (BI.own (EP b) : sProp 𝕄) := sep_elim_left
  exact h1.trans (sep_mono_right (h2.trans h3))

theorem fund : (BI.own (EP (initOf (Pipeline.cells (nD := nD) (τ := τ) (Pipeline.pin (pcfgs (F := F)) adm) cellOf_inj) (Pipeline.launchToks (nD := nD) (τ := τ) (Pipeline.pin (pcfgs (F := F)) adm) cellOf_inj))) : sProp 𝕄)
    ⊢ |==> bigSep Finset.univ fun d : Dev nD => G (F := F) d := by
  refine (Pipeline.fund_ghost (Pipeline.pin (pcfgs (F := F)) adm) EP cellOf_inj).trans ?_
  have h1 : (bigSep Finset.univ fun d : Dev nD => bigSep Finset.univ fun p : Fin 1 => Pipeline.cellsGhost (Pipeline.pin (pcfgs (F := F)) adm) EP p d : sProp 𝕄)
      = bigSep Finset.univ fun d : Dev nD => Pipeline.cellsGhost (Pipeline.pin (pcfgs (F := F)) adm) EP 0 d :=
    bigSep_congr fun d _ => bigSep_univ_of_subsingleton (0 : Fin 1)
  have h2 : (bigSep Finset.univ fun d : Dev nD => bigSep Finset.univ fun p : Fin 1 => Pipeline.toksInit (Pipeline.pin (pcfgs (F := F)) adm) EP p d : sProp 𝕄)
      = bigSep Finset.univ fun d : Dev nD => Pipeline.toksInit (Pipeline.pin (pcfgs (F := F)) adm) EP 0 d :=
    bigSep_congr fun d _ => bigSep_univ_of_subsingleton (0 : Fin 1)
  unfold G
  rw [bigSep_sep', h1, h2]

theorem px_emp : (bigSep Finset.univ fun thr : Thread nD τ => bigSep Finset.univ fun q : Fin 1 => (P m).x q thr) = (iprop(emp) : sProp 𝕄) := by
  show (bigSep Finset.univ fun _ : Thread nD τ => bigSep Finset.univ fun _ : Fin 1 => iprop(emp)) = (iprop(emp) : sProp 𝕄)
  exact (bigSep_congr fun _ _ => bigSep_emp_const _).trans (bigSep_emp_const _)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_split _ _ _) $$ Hu
  icases H with ⟨HH, HK⟩
  imod (fund (F := F)) $$ HK with HG
  imodintro
  isplitl [HH]; · iexact HH
  isplitl [HG]; · iexact HG
  rw [px_emp]; iempintro

/-! ## @main on the TensorCore -/

abbrev a' : DevRef τ sig := Proc.devRef .tc (main_arg0 : Ref sig .tc)
abbrev x' : DevRef τ sig := Proc.devRef .tc (main_v0 : Ref sig .tc)
abbrev o' : DevRef τ sig := Proc.devRef .tc (main_v1 : Ref sig .tc)
abbrev p' : DevRef τ sig := Proc.devRef .tc (main_v2 : Ref sig .tc)
abbrev r' : DevRef τ sig := Proc.devRef .tc (main_v3 : Ref sig .tc)
abbrev op0 : HloOp τ sig (Elt F) := StableHlo.reshape main_arg0 main_v0 (rfl : (.f32 : EltTy) = .f32) shapeCasts_S1x262144x128_S262144x128
abbrev op1 : HloOp τ sig (Elt F) := StableHlo.reshape main_v1 main_v2 (rfl : (.f32 : EltTy) = .f32) shapeCasts_S32x4096_S1024x128
abbrev S0 : Finset (DevRef τ sig) := {a', x'}
abbrev S1 : Finset (DevRef τ sig) := {o', p'}

theorem held_S0 (d : Dev nD) (W : Valuation τ sig (Elt F)) :
    (held (T d) S0 W : sProp 𝕄) = iprop((aLoc d ↦{fullShare} W a') ∗ (xLoc d ↦{fullShare} W x')) := by
  unfold held S0
  rw [SparseCore.bigSep_insert' (by decide), bigSep_singleton]
theorem held_S1 (d : Dev nD) (W : Valuation τ sig (Elt F)) :
    (held (T d) S1 W : sProp 𝕄) = iprop((oLoc d ↦{fullShare} W o') ∗ (pLoc d ↦{fullShare} W p')) := by
  unfold held S1
  rw [SparseCore.bigSep_insert' (by decide), bigSep_singleton]

theorem unscopedBufs_eq (d : Dev nD) (W : (b : Ref sig .tc) → Buf (Elt F) ((d.tc : Thread nD τ).loc b)) :
    (unscopedBufs d W : sProp 𝕄) = iprop((aLoc d ↦{fullShare} W main_arg0) ∗ (xLoc d ↦{fullShare} W main_v0) ∗ (oLoc d ↦{fullShare} W main_v1)
      ∗ (pLoc d ↦{fullShare} W main_v2) ∗ (rLoc d ↦{fullShare} W main_v3)) := by
  unfold unscopedBufs
  rw [show (Finset.univ.filter fun b : Ref sig .tc => ¬ b.isScoped) = {main_arg0, main_v0, main_v1, main_v2, main_v3} by decide,
    SparseCore.bigSep_insert' (by decide), SparseCore.bigSep_insert' (by decide), SparseCore.bigSep_insert' (by decide),
    SparseCore.bigSep_insert' (by decide), bigSep_singleton]

/-- The launch valuation, and the one before the second regrouping. -/
def W0 (d : Dev nD) : Valuation τ sig (Elt F) := fun b => m (d, b)
def W1 (d : Dev nD) : Valuation τ sig (Elt F) := Function.update (W0 m d) o' (parts (xm m d))

theorem W1_o (d : Dev nD) : W1 m d o' = parts (xm m d) := Function.update_self _ _ _
theorem W1_p (d : Dev nD) : W1 m d p' = m (pLoc d) := Function.update_of_ne (show p' ≠ o' by decide) _ _

theorem res0_a (d : Dev nD) : (op0 (F := F)).result (W0 m d) a' = m (aLoc d) :=
  StableHlo.reshape_result_ne _ _ _ _ _ _ _ (show (main_arg0 : Ref sig .tc) ≠ main_v0 by decide)
theorem res0_x (d : Dev nD) : (op0 (F := F)).result (W0 m d) x' = xm m d := StableHlo.reshape_result _ _ _ _ _ _ _
theorem res1_p (d : Dev nD) : (op1 (F := F)).result (W1 m d) p' = ym m d := by
  refine (StableHlo.reshape_result _ _ _ _ _ _ _).trans ?_
  rw [W1_o]; rfl

theorem call_pts (d : Dev nD) (f : Buf (Elt F) (oLoc d)) :
    (bigSep (Finset.univ : Finset (Fin 2)) fun c => corePts m d c.val f) = iprop((xLoc d ↦{fullShare} xm m d) ∗ (oLoc d ↦{fullShare} f)) := by
  unfold corePts
  rw [bigSep_sep', o_cores, deal 2 (by decide) (xLoc d) Finset.univ fullShare (xm m d)]
  rfl

theorem st0_eq (d : Dev nD) : (bigSep Finset.univ fun c : Fin ((K (F := F)).nCore 0) => (P m).st 0 d c)
    = iprop((xLoc d ↦{fullShare} xm m d) ∗ (oLoc d ↦{fullShare} m (oLoc d))) := call_pts m d (m (oLoc d))
theorem dn0_eq (d : Dev nD) : (bigSep Finset.univ fun c : Fin ((K (F := F)).nCore 0) => (P m).dn 0 d c)
    = iprop((xLoc d ↦{fullShare} xm m d) ∗ (oLoc d ↦{fullShare} parts (xm m d))) := call_pts m d (parts (xm m d))

theorem reg_pre (y : (c : Dev nD) → Buf (Elt F) (pLoc c)) (fr : (c : Dev nD) → Buf (Elt F) (rLoc c)) (L) (lv) (d : Dev nD) :
    (reg y fr L lv).pre d = iprop((pLoc d ↦{fullShare} y d) ∗ (rLoc d ↦{fullShare} fr d) ∗ ∃ W, ⌜Below (F := F) d W⌝ ∗ owes d.tc 0 W) := rfl
theorem reg_post (y : (c : Dev nD) → Buf (Elt F) (pLoc c)) (fr : (c : Dev nD) → Buf (Elt F) (rLoc c)) (L) (lv) (d : Dev nD) :
    (reg y fr L lv).post d = iprop((pLoc d ↦{fullShare} y d) ∗ (rLoc d ↦{fullShare} k1_pay1 (y d)) ∗ ∃ W, ⌜Below (F := F) d W⌝ ∗ owes d.tc 0 W) := rfl

/-- What @main leaves the claim: the input at its launch contents, the result at its value. -/
abbrev FIN (d : Dev nD) : sProp 𝕄 := iprop((aLoc d ↦{fullShare} m (aLoc d)) ∗ (rLoc d ↦{fullShare} k1_pay1 (ym m d)))

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Hx, Ho, Hp, Hr⟩, Hts, -⟩, HG, HT⟩
  -- the input as rows
  iapply (wp_hlo_within 𝒱 (SparseCore.T d) none Set.univ (op := op0) (S := S0) (Finset.Subset.refl _) (V := W0 m d)) $$ [Hb Ha Hx]
  · isplitl [Hb]; · iexact Hb
    rw [held_S0]
    isplitl [Ha]; · iexact Ha
    iexact Hx
  iintro ⟨Hb, Hheld⟩
  ihave Hh := (Entails.of_eq (held_S0 (F := F) d _)) $$ Hheld
  rw [res0_a, res0_x]
  icases Hh with ⟨Ha, Hx⟩
  rw [wp_ret]; imodintro
  -- the call
  iapply ((K (F := F)).wp_run (D (F := F)) 𝒱 (EH := EH) (P := P m) κ d 0)
  isplitr; · iexact Hctx
  isplitl [Hst]; · iexact Hst
  isplitl [Hx Ho]
  · iapply (Entails.of_eq (st0_eq m d).symm)
    isplitl [Hx]; · iexact Hx
    iexact Ho
  iintro ⟨Hst, Hdn⟩
  ihave Hdn' := (Entails.of_eq (dn0_eq m d)) $$ Hdn
  icases Hdn' with ⟨Hx, Ho⟩
  -- the histograms regrouped
  iapply (wp_hlo_within 𝒱 (SparseCore.T d) none Set.univ (op := op1) (S := S1) (Finset.Subset.refl _) (V := W1 m d)) $$ [Hb Ho Hp]
  · isplitl [Hb]; · iexact Hb
    rw [held_S1, W1_o, W1_p]
    isplitl [Ho]; · iexact Ho
    iexact Hp
  iintro ⟨Hb, Hheld⟩
  ihave Hh := (Entails.of_eq (held_S1 (F := F) d _)) $$ Hheld
  rw [res1_p]
  icases Hh with ⟨Ho, Hp⟩
  rw [wp_ret]; imodintro
  -- the pipeline
  rw [show (0 : Fin 1).val + 1 = 1 from rfl]
  unfold SparseCore.Cfg.tcSt
  rw [(K (F := F)).Otc_end d (show 1 ≤ 1 by decide)]
  icases Hst with ⟨⟨%W, %hWb, HO⟩, Hst⟩
  ihave Hlev := (SparseCore.Cfg.ctx_levAts κ) $$ Hctx
  rw [show (Prog.lift (.customCall (SparseCore.inner (Pipeline.entry 0)) ()) : Prog (TpuEff nD τ sig (Elt F) (SparseCore.Sig (ΛP (F := F)) 1) .tc) PUnit)
    = SparseCore.liftProg (Q := 1) (.op (.customCall (Pipeline.entry 0) ()) fun _ => .ret ⟨⟩ : Prog (TpuEff nD τ sig (Elt F) (ΛP (F := F)) .tc) PUnit) from rfl]
  iapply ((K (F := F)).wp_liftProg (D (F := F)) 𝒱 (SparseCore.T d) Set.univ none _ _)
  iapply (Pipeline.RegionSeg.wp (pcfgs (F := F)) adm (pdats (ym m) fun c => m (rLoc c)) none cellOf_inj EP defs₀ 𝒱₀ (K (F := F)).L (K (F := F)).lev
    (reg (ym m) (fun c => m (rLoc c)) (K (F := F)).L (K (F := F)).lev) d none (fun _ h => nomatch h) _ _)
  isplitl [Hst Ha Hts]
  · iintro ⟨Hb, Hpost⟩
    rw [wp_ret]; imodintro; imodintro
    ihave Hpost' := (Entails.of_eq (reg_post (ym m) (fun c => m (rLoc c)) (K (F := F)).L (K (F := F)).lev d)) $$ Hpost
    icases Hpost' with ⟨Hp, Hr, %W', %hB, HO⟩
    isplitl [HO Hst]
    · isplitl [HO]
      · iexists W'
        isplitr
        · ipureintro; exact hB
        · iexact HO
      · iexact Hst
    isplitl [Ha Hr]
    · isplitl [Ha]; · iexact Ha
      iexact Hr
    isplitl [Hb] <;> iassumption
  isplitl [Hb]; · iexact Hb
  isplitl [Hp Hr HO]
  · iapply (Entails.of_eq (reg_pre (ym m) (fun c => m (rLoc c)) (K (F := F)).L (K (F := F)).lev d).symm)
    isplitl [Hp]; · iexact Hp
    isplitl [Hr]; · iexact Hr
    iexists W
    isplitr
    · ipureintro; exact hWb
    · iexact HO
  isplitl [Hlev]; · iexact Hlev
  isplitl [HG]; · iexact HG
  iexact HT

def fq (d : Dev nD) (s' : Phys nD τ sig (Elt F)) : Prop := s'.mem.mem (aLoc d) = m (aLoc d) ∧ s'.mem.mem (rLoc d) = k1_pay1 (ym m d)

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := rLoc d) (I := Finset.univ) (q := fullShare) (f := k1_pay1 (ym m d))) $$ [HSI Hr]
  · isplitl [HSI] <;> iassumption
  icases H with %h2
  ipureintro; exact ⟨funext fun i => h1 i (Finset.mem_univ i), funext fun i => h2 i (Finset.mem_univ i)⟩

/-! ## The program's run -/

def QC : PUnit × MemSt nD τ sig (Elt F) → Prop := fun r =>
  (∀ c : Dev nD, r.2.mem (aLoc c) = m (aLoc c) ∧ r.2.mem (rLoc c) = k1_pay1 (ym m c)) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) scFacts v₀
    (fun q hq => match q with | 0 => nomatch hq)
    (fun q _ => match q with | 0 => tileObl m scFacts)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

end Cert.Proof.HistI

end
-- ==== Proof.Frames.lean ====
/-
  The three frame claims: the program's run at either instance (HistB, HistI), and the reference's.
-/
module

public import proofs.«01_k».proof.Proof.HistI.Launch
public import proofs.«01_k».proof.Proof.HistB.Launch
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

theorem frame_p : Cert.quiescent_Kernel (hKernel := Cert.Kernel.Gen.facts) := fun m ρ _ =>
  (θ_run Cert.Kernel.defs _ _).mono (fun _ h => ⟨fun c => (h.1 c).1, h.2⟩) (HistB.run_main (F := Bits) m ρ)

theorem frame_pi : Cert.quiescent_KernelIdeal (hKernelIdeal := Cert.KernelIdeal.Gen.facts) := fun m ρ _ =>
  (θ_run Cert.KernelIdeal.defs _ _).mono (fun _ h => ⟨fun c => (h.1 c).1, h.2⟩) (HistI.run_main (F := Ideal) m ρ)

theorem frame_ri : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Proof

end
-- ==== Proof.Sum.Bin.lean ====
/-
  One float's bin over the extended reals: the program truncates 32 / (1 + e^(0 - v)) toward zero, the reference takes the floor of
  (1 / (1 + e^(-v))) * 32; both then hold the word between 0 and 31. The two are one word.
-/
module

public import Idealize.ShloMosaic.PureOps.Ideal
public import Idealize.ShloMosaic.Lib.IdealHost

@[expose] public section

noncomputable section

namespace Cert.Proof.Sum

open Idealize.ShloMosaic

theorem ofBits_32 : Ideal.ofBits .f32 0x42000000#32 = ((32 : ℝ) : EReal) := by
  simp [Ideal.ofBits, Ideal.ieee, -EReal.coe_mul]; norm_num
theorem ofBits_inv : Ideal.ofBits .f32 0x36800000#32 = (((1 : ℝ) / 262144 : ℝ) : EReal) := by
  simp [Ideal.ofBits, Ideal.ieee, -EReal.coe_mul]; norm_num
theorem ofBits_rows : Ideal.ofBits .f32 0x48800000#32 = ((262144 : ℝ) : EReal) := by
  simp [Ideal.ofBits, Ideal.ieee, -EReal.coe_mul]; norm_num

/-- A quotient of reals. -/
theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- The reference's bin. -/
def refBin (v : EReal) : BitVec 32 :=
  IntOp.minsi 31#32 (IntOp.maxsi 0#32 (Ideal.fptosi 32 (Ideal.liftRound Int.floor (Ideal.div 1 (1 + Ideal.exp (-v)) * ((32 : ℝ) : EReal)))))
/-- The program's. -/
def kerBin (v : EReal) : BitVec 32 :=
  IntOp.minsi 31#32 (IntOp.maxsi 0#32 (Ideal.fptosi 32 (Ideal.div ((32 : ℝ) : EReal) (1 + Ideal.exp (0 - v)))))

/-- Truncating a real that is not negative is truncating its floor. -/
theorem fptosi_floor (q : ℝ) (hq : 0 ≤ q) : Ideal.fptosi 32 ((((⌊q⌋ : ℤ) : ℝ) : EReal)) = Ideal.fptosi 32 ((q : ℝ) : EReal) := by
  unfold Ideal.fptosi
  rw [Ideal.toIntClamped_coe, Ideal.toIntClamped_coe, if_pos hq, if_pos (by exact_mod_cast Int.floor_nonneg.mpr hq), Int.floor_intCast]

theorem one_coe : (1 : EReal) = ((1 : ℝ) : EReal) := by norm_cast

theorem bin_eq (v : EReal) : kerBin v = refBin v := by
  unfold kerBin refBin
  rw [zero_sub]
  refine congrArg (fun w => IntOp.minsi 31#32 (IntOp.maxsi 0#32 w)) ?_
  induction v using EReal.rec with
  | bot =>
    have e : Ideal.exp (-(⊥ : EReal)) = ⊤ := by rw [EReal.neg_bot]; rfl
    rw [e, show (1 : EReal) + ⊤ = ⊤ from EReal.add_top_of_ne_bot (by decide)]
    have h (x : EReal) : Ideal.div x ⊤ = 0 := by unfold Ideal.div; simp
    rw [h, h, zero_mul, show (0 : EReal) = ((0 : ℝ) : EReal) by norm_cast, Ideal.liftRound_coe]
    exact (fptosi_floor 0 le_rfl).symm
  | top =>
    have e : Ideal.exp (-(⊤ : EReal)) = 0 := by rw [EReal.neg_top]; rfl
    rw [e, add_zero, one_coe, div_coe _ _ one_ne_zero, div_coe _ _ one_ne_zero, ← EReal.coe_mul, Ideal.liftRound_coe, fptosi_floor _ (by norm_num)]
    norm_num
  | coe r =>
    have e : Ideal.exp (-(r : EReal)) = ((Real.exp (-r) : ℝ) : EReal) := by rw [← EReal.coe_neg]; rfl
    have hp : 0 < 1 + Real.exp (-r) := by positivity
    rw [e, one_coe, ← EReal.coe_add, div_coe _ _ hp.ne', div_coe _ _ hp.ne', ← EReal.coe_mul, Ideal.liftRound_coe,
      fptosi_floor _ (by positivity), div_mul_eq_mul_div, one_mul]

end Cert.Proof.Sum

end
-- ==== Proof.Sum.Ker.lean ====
/-
  The program's result over the extended reals: at feature `f` and bin `b`, the number of rows whose bin there is `b`, times 2^-18.
-/
module

public import proofs.«01_k».proof.Proof.HistI.Launch
public import proofs.«01_k».proof.Proof.Sum.Bin
public import Idealize.ShloMosaic.Lib.Routing.Words
public import Idealize.ShloMosaic.Lib.Pointwise.Contract

@[expose] public section

noncomputable section

namespace Cert.Proof.Sum

open Idealize.ShloMosaic
open Cert.KernelIdeal Cert.KernelIdeal.Gen
open scoped BigOperators

/-! ## Counting -/

/-- Feature `f` of row `n` is in bin `b`. -/
abbrev InBin (X : ℕ → Fin 128 → EReal) (f : Fin 128) (b : ℕ) (n : ℕ) : Prop := (kerBin (X n f)).toNat = b

theorem binw_eq (v : Ideal .f32) : HistI.binw (F := Ideal) v = kerBin v := by
  show IntOp.minsi 31#32 (IntOp.maxsi 0#32 (Ideal.fptosi 32 (Ideal.div (Ideal.ofBits .f32 0x42000000#32)
    (Ideal.ofBits .f32 0x3F800000#32 + Ideal.exp (Ideal.ofBits .f32 0x00000000#32 - v))))) = _
  rw [ofBits_32, Ideal.ofBits_one_f32, Ideal.ofBits_zero_f32]
  rfl

/-- A histogram's word is a count. -/
theorem histN_count (rows : ℕ → Fin 128 → Ideal .f32) (p : S4096.Idx) :
    ∀ n, HistI.histN (F := Ideal) rows n p = ((Nat.count (InBin rows (HistI.feat p) (HistI.binOf p)) n : ℕ) : EReal)
  | 0 => by
    rw [Nat.count_zero, Nat.cast_zero]
    exact Ideal.ofBits_zero_f32
  | n + 1 => by
    have hf : (HistI.feat p).val / 16 < 8 := by have := (HistI.feat p).isLt; omega
    have ih := histN_count rows p n
    show (if (HistI.feat p).val / 16 < 8 ∧ (HistI.binw (F := Ideal) (rows n (HistI.feat p))).toNat = HistI.binOf p
      then (HistI.histN (F := Ideal) rows n p + Ideal.ofBits .f32 0x3F800000#32 : EReal) else HistI.histN (F := Ideal) rows n p) = _
    rw [Nat.count_succ, binw_eq, ih, Ideal.ofBits_one_f32]
    by_cases h : InBin rows (HistI.feat p) (HistI.binOf p) n
    · rw [if_pos ⟨hf, h⟩, if_pos h, Nat.cast_add, Nat.cast_one]
    · rw [if_neg (fun q => h q.2), if_neg h, Nat.add_zero]

theorem count_blocks (P : ℕ → Prop) [DecidablePred P] (k : ℕ) :
    ∀ m, Nat.count P (k * m) = ∑ w ∈ Finset.range m, Nat.count (fun i => P (k * w + i)) k
  | 0 => by simp
  | m + 1 => by rw [Nat.mul_succ, Nat.count_add, count_blocks P k m, Finset.sum_range_succ]

theorem sum_every (h : ℕ → ℕ) (b : ℕ) (hb : b < 32) :
    ∀ m, (∑ r ∈ Finset.range (32 * m), if r % 32 = b then h (r / 32) else 0) = ∑ w ∈ Finset.range m, h w
  | 0 => by simp
  | m + 1 => by
    have e : (∑ x ∈ Finset.range 32, if (32 * m + x) % 32 = b then h ((32 * m + x) / 32) else 0) = ∑ x ∈ Finset.range 32, if x = b then h m else 0 :=
      Finset.sum_congr rfl fun x hx => by
        have := Finset.mem_range.mp hx
        rw [show (32 * m + x) % 32 = x by omega, show (32 * m + x) / 32 = m by omega]
    rw [Nat.mul_succ, Finset.sum_range_add, sum_every h b hb m, e, Finset.sum_range_succ h m,
      Finset.sum_ite_eq' (Finset.range 32) b fun _ => h m, if_pos (Finset.mem_range.mpr hb)]

/-! ## The matrix that gathers the bins -/

/-- Row `r`, column `b` of the 0-1 matrix: whether `r` modulo 32 is `b`, in words. -/
def selWord (r b : BitVec 32) : BitVec 1 :=
  IntOp.cmpi .eq (Scalar.select (IntOp.andi (IntOp.xori (IntOp.cmpi .slt (IntOp.remsi .vector r (Scalar.select (Scalar.cmpi .eq 32#32 0#32) 1#32 32#32)) 0#32)
      (Scalar.cmpi .slt (Scalar.select (Scalar.cmpi .eq 32#32 0#32) 1#32 32#32) 0#32))
      (IntOp.cmpi .ne (IntOp.remsi .vector r (Scalar.select (Scalar.cmpi .eq 32#32 0#32) 1#32 32#32)) 0#32))
    (IntOp.addi (IntOp.remsi .vector r (Scalar.select (Scalar.cmpi .eq 32#32 0#32) 1#32 32#32)) (Scalar.select (Scalar.cmpi .eq 32#32 0#32) 1#32 32#32))
    (IntOp.remsi .vector r (Scalar.select (Scalar.cmpi .eq 32#32 0#32) 1#32 32#32))) b

theorem selWord_eq (r b : ℕ) (hr : r < 1024) (hb : b < 32) : selWord (BitVec.ofNat 32 r) (BitVec.ofNat 32 b) = BitVec.ofBool (decide (r % 32 = b)) := by
  have h5 : Scalar.select (Scalar.cmpi .eq 32#32 0#32) 1#32 32#32 = BitVec.ofNat 32 32 := by decide
  have hm : r % 32 < 32 := Nat.mod_lt _ (by decide)
  unfold selWord
  rw [h5, Routing.remsi_word .vector (by omega) (by decide) (by decide), WordCmp.cmpi_slt_zero,
    decide_eq_false (by rw [BitVec.toNat_ofNat]; omega)]
  have e0 : ∀ y, IntOp.andi (IntOp.xori (BitVec.ofBool false) (Scalar.cmpi .slt (BitVec.ofNat 32 32) 0#32)) y = 0#1 := by decide
  rw [e0, WordCmp.select_zero, WordCmp.cmpi_eq_ofNat (by omega) (by omega)]

def sel : FVec Ideal S1024x32 .f32 := fun i =>
  Scalar.select (selWord (BitVec.ofNat 32 (i 0).val) (BitVec.ofNat 32 (i 1).val)) (1 : EReal) 0

theorem sel_apply (i : S1024x32.Idx) : sel i = if (i 0).val % 32 = (i 1).val then (1 : EReal) else 0 := by
  unfold sel
  rw [selWord_eq _ _ (i 0).isLt (i 1).isLt, WordCmp.select_decide]

theorem pay_eq (y : Vec Ideal S1024x128 .f32) :
    k1_pay1 (F := Ideal) y = mulf (matmul (F := Ideal) (φ₁ := .f32) (φ₂ := .f32) dot_S1024x128_S1024x32_S128x32_0_0_1_1_n_n none (shapeCast (α := Ideal .f32) S1024x128 y shapeCasts_S1024x128_S1024x128) sel
      (constant S128x32 .f32 0x00000000#32)) (broadcast S128x32 (Scalar.ofBits .f32 0x36800000#32)) := by
  unfold k1_pay1
  refine congrArg (fun s => mulf (matmul (F := Ideal) (φ₁ := .f32) (φ₂ := .f32) dot_S1024x128_S1024x32_S128x32_0_0_1_1_n_n none (shapeCast (α := Ideal .f32) S1024x128 y shapeCasts_S1024x128_S1024x128) s
      (constant S128x32 .f32 0x00000000#32)) (broadcast S128x32 (Scalar.ofBits .f32 0x36800000#32))) (funext fun i => ?_)
  show Scalar.select (selWord (iota .tc S1024x32 32 [0] iota_S1024x32_d0_w32 i) (iota .tc S1024x32 32 [1] iota_S1024x32_d1_w32 i))
    (Ideal.ofBits .f32 0x3F800000#32) (Ideal.ofBits .f32 0x00000000#32) = _
  rw [iota_single_apply, iota_single_apply, Ideal.ofBits_one_f32, Ideal.ofBits_zero_f32]
  rfl

theorem pay_apply (y : Vec Ideal S1024x128 .f32) (f : Fin 128) (b : Fin 32) :
    k1_pay1 (F := Ideal) y (ix2 f b)
      = (∑ r : Fin 1024, y (ix2 r f) * (if r.val % 32 = b.val then (1 : EReal) else 0)) * (((1 : ℝ) / 262144 : ℝ) : EReal) := by
  rw [pay_eq]
  show Ideal.matmul dot_S1024x128_S1024x32_S128x32_0_0_1_1_n_n (shapeCast S1024x128 y shapeCasts_S1024x128_S1024x128) sel
    (fun _ => Ideal.ofBits .f32 0x00000000#32) (ix2 f b) * Ideal.ofBits .f32 0x36800000#32 = _
  rw [ofBits_inv, Ideal.matmul_apply₁_of dot_S1024x128_S1024x32_S128x32_0_0_1_1_n_n (a := 0) (K := 1024) rfl rfl _ _ _ _ (fun r : Fin 1024 => ix2 r f) (fun r : Fin 1024 => ix2 r b) ?_ ?_,
    Ideal.ofBits_zero_f32, zero_add]
  · congr 1
    refine Finset.sum_congr rfl fun r _ => ?_
    rw [sel_apply, shapeCast_apply y _ (ix2 r f) (ix2 r f) rfl]
    rfl
  · intro r; funext a; match a with | ⟨0, _⟩ => rfl | ⟨1, _⟩ => rfl
  · intro r; funext a; match a with | ⟨0, _⟩ => rfl | ⟨1, _⟩ => rfl

/-! ## The result -/

/-- The input's rows, by number. -/
def rowsX (a : S1x262144x128.Idx → EReal) (n : ℕ) (f : Fin 128) : EReal := a (ix3 0 ⟨n % 262144, Nat.mod_lt _ (by decide)⟩ f)

variable (m : (ℓ : Loc nD τ sig) → Buf (Elt Ideal) ℓ) (d : Dev nD)

/-- The input. -/
abbrev inp : S1x262144x128.Idx → EReal := m (HistI.aLoc d)

theorem xrow_eq (n : ℕ) : HistI.xrow (F := Ideal) (HistI.xm m d) n = rowsX (inp m d) n := by
  funext f
  refine shapeCast_apply (inp m d) _ _ (ix3 0 ⟨n % 262144, Nat.mod_lt _ (by decide)⟩ f) ?_
  rw [Shape.rowMajor_val_three, Shape.rowMajor_val_two]
  show (0 * 262144 + n % 262144) * 128 + f.val = n % 262144 * 128 + f.val
  rw [Nat.zero_mul, Nat.zero_add]

theorem histN_rows (x : S262144x128.Idx → Ideal .f32) (a : S1x262144x128.Idx → EReal) (hx : ∀ n, HistI.xrow (F := Ideal) x n = rowsX a n)
    (b k : ℕ) (p : S4096.Idx) (f : Fin 128) (c : ℕ) (hf : HistI.feat p = f) (hc : HistI.binOf p = c) :
    HistI.histN (F := Ideal) (HistI.rowsOf x b) k p = ((Nat.count (fun i => InBin (rowsX a) f c (b + i)) k : ℕ) : EReal) := by
  rw [histN_count, hf, hc, show HistI.rowsOf (F := Ideal) x b = fun i => rowsX a (b + i) from funext fun i => hx (b + i)]

theorem parts_apply (x : S262144x128.Idx → Ideal .f32) (a : S1x262144x128.Idx → EReal) (hx : ∀ n, HistI.xrow (F := Ideal) x n = rowsX a n)
    (p : S32x4096.Idx) (w : ℕ) (f : Fin 128) (c : ℕ) (hw : (p 0).val = w) (hf : HistI.feat (HistI.inRow p) = f)
    (hc : HistI.binOf (HistI.inRow p) = c) :
    HistI.parts (F := Ideal) x p = ((Nat.count (fun i => InBin (rowsX a) f c (8192 * w + i)) 8192 : ℕ) : EReal) := by
  unfold HistI.parts
  rw [histN_rows x a hx _ _ _ f c hf hc, hw]

theorem parts_two (x : S262144x128.Idx → Ideal .f32) (a : S1x262144x128.Idx → EReal) (hx : ∀ n, HistI.xrow (F := Ideal) x n = rowsX a n)
    (w : Fin 32) (q : Fin 4096) (f : Fin 128) (c : ℕ) (hf : q.val % 128 = f.val) (hc : q.val / 128 = c) :
    HistI.parts (F := Ideal) x (ix2 w q) = ((Nat.count (fun i => InBin (rowsX a) f c (8192 * w.val + i)) 8192 : ℕ) : EReal) := by
  rw [parts_apply x a hx (ix2 w q) w.val f c rfl (Fin.ext hf) hc]

theorem ym_apply (r : Fin 1024) (f : Fin 128) :
    HistI.ym m d (ix2 r f) = ((Nat.count (fun i => InBin (rowsX (inp m d)) f (r.val % 32) (8192 * (r.val / 32) + i)) 8192 : ℕ) : EReal) := by
  have hr := r.isLt
  have hf := f.isLt
  have hk : (S32x4096.rowMajor (ix2 (⟨r.val / 32, by omega⟩ : Fin 32) (⟨r.val % 32 * 128 + f.val, by omega⟩ : Fin 4096))).val
      = (S1024x128.rowMajor (ix2 r f)).val := by
    rw [Shape.rowMajor_val_two, Shape.rowMajor_val_two]
    show r.val / 32 * 4096 + (r.val % 32 * 128 + f.val) = r.val * 128 + f.val
    omega
  have h := shapeCast_apply (HistI.parts (F := Ideal) (HistI.xm m d)) shapeCasts_S32x4096_S1024x128 (ix2 r f) _ hk
  rw [parts_two (HistI.xm m d) (inp m d) (xrow_eq m d) _ _ f (r.val % 32) (by show (r.val % 32 * 128 + f.val) % 128 = f.val; omega)
      (by show (r.val % 32 * 128 + f.val) / 128 = r.val % 32; omega)] at h
  unfold HistI.ym
  exact h

/-- The program's result. -/
theorem ker_apply (f : Fin 128) (b : Fin 32) :
    k1_pay1 (F := Ideal) (HistI.ym m d) (ix2 f b)
      = ((Nat.count (InBin (rowsX (inp m d)) f b.val) 262144 : ℕ) : EReal) * (((1 : ℝ) / 262144 : ℝ) : EReal) := by
  rw [pay_apply]
  congr 1
  rw [show (262144 : ℕ) = 8192 * 32 from rfl, count_blocks, ← sum_every _ b.val b.isLt 32, ← Fin.sum_univ_eq_sum_range, Nat.cast_sum]
  refine Finset.sum_congr rfl fun r _ => ?_
  rw [ym_apply]
  by_cases h : r.val % 32 = b.val
  · rw [if_pos h, if_pos h, mul_one, h]
  · rw [if_neg h, if_neg h, mul_zero, Nat.cast_zero]

end Cert.Proof.Sum

end
-- ==== Proof.Sum.Ref.lean ====
/-
  The reference's result over the extended reals: at feature `f` and bin `b`, the number of rows whose bin there is `b`, over 2^18.
-/
module

public import proofs.«01_k».proof.Proof.Gen.ReferenceIdeal.Run
public import proofs.«01_k».proof.Proof.Sum.Ker
public import Idealize.ShloMosaic.Lib.Routing.OpsPair

@[expose] public section

noncomputable section

namespace Cert.Proof.Sum

open Idealize.ShloMosaic
open Cert.ReferenceIdeal Cert.ReferenceIdeal.Gen
open scoped BigOperators

/-! ## Where an update lands -/

/-- An update of a scatter by rows of two words lands where its two words say. -/
theorem lands {R C N w : ℕ} (d : ScatterDims ⟨2, ![R, C]⟩ ⟨2, ![N, 2]⟩ ⟨1, ![N]⟩) (hin : d.insertedWindowDims = [0, 1])
    (hto : d.scatterDimsToOperandDims = [0, 1]) (hax : d.indexVectorDim = 1) (idx : IVec ⟨2, ![N, 2]⟩ w) (e : Fin N) (r : Fin R) (c : Fin C) :
    d.resultIdx? (ix1 e) idx = some (ix2 r c) ↔ (idx (ix2 e 0)).toInt = r.val ∧ (idx (ix2 e 1)).toInt = c.val := by
  have mem : ∀ q : Fin 2, q ∈ d.scatterDimsToOperandDims := by
    intro q
    rw [hto]
    fin_cases q <;> simp
  have noWindow : ∀ q : Fin 2, d.window (ix1 e) q = 0 := by
    intro q
    unfold ScatterDims.window
    refine dif_neg fun h => ?_
    have h' := of_decide_eq_true (List.mem_filter.1 h).2
    rw [hin] at h'
    exact h' (by fin_cases q <;> simp)
  have coord : ∀ y : Fin 1, ((ix1 e : (⟨1, ![N]⟩ : Shape).Idx) y).val = e.val := fun | ⟨0, _⟩ => rfl
  have atStart : ∀ q : Fin 2, d.start (ix1 e) idx q = (idx (ix2 e q)).toInt := by
    intro q
    unfold ScatterDims.start
    rw [dif_pos (mem q)]
    refine congrArg (fun k => (idx k).toInt) (funext fun a => Fin.ext ?_)
    match a with
    | ⟨0, _⟩ =>
      unfold ScatterDims.siIdx
      rw [dif_neg (by rw [hax]; exact Nat.zero_ne_one)]
      unfold ScatterDims.siCoord
      exact coord _
    | ⟨1, _⟩ =>
      unfold ScatterDims.siIdx
      rw [dif_pos (by rw [hax])]
      show List.idxOf q d.scatterDimsToOperandDims = q.val
      rw [hto]
      fin_cases q <;> rfl
  rw [Routing.resultIdx?_eq_some]
  constructor
  · intro h
    have h0 := h 0
    have h1 := h 1
    rw [atStart, noWindow, Nat.cast_zero, Int.add_zero] at h0 h1
    exact ⟨h0, h1⟩
  · rintro ⟨h0, h1⟩ q
    rw [atStart, noWindow, Nat.cast_zero, Int.add_zero]
    match q with
    | ⟨0, _⟩ => exact h0
    | ⟨1, _⟩ => exact h1

/-! ## The index words -/

variable (a : S1x262144x128.Idx → EReal)

/-- Thirty-two times the feature of every float. -/
def featW : IVec S1x262144x128 32 :=
  broadcastInDim S1x262144x128 ![0, 1, 2] bcast_S1x1x128_S1x262144x128_0_1_2 (muli (broadcastInDim S1x1x128 ![2] bcast_S128_S1x1x128_2 (iotaInDim S128 32 0)) (broadcastInDim S1x1x128 ![] bcast_S_S1x1x128 (constantI S_ 32 32#32)))

theorem featW_apply (n : Fin 262144) (f : Fin 128) : featW (ix3 0 n f) = BitVec.ofNat 32 f.val * 32#32 := by
  refine (broadcastInDim_apply _ _ _ _ (ix3 0 0 f) ?_).trans ?_
  · intro q
    match q with
    | ⟨0, _⟩ => rfl
    | ⟨1, _⟩ => rfl
    | ⟨2, _⟩ => rfl
  · show broadcastInDim S1x1x128 ![2] bcast_S128_S1x1x128_2 (iotaInDim S128 32 0) (ix3 0 0 f) * 32#32 = _
    rw [broadcastInDim_apply _ _ (iotaInDim S128 32 0) (ix3 0 0 f) (ix1 f) (fun | ⟨0, _⟩ => rfl)]
    rfl

/-- The word 32 f + bin of every float. -/
def flat : IVec S1x262144x128 32 :=
  addi featW
    (minsi (broadcastInDim S1x262144x128 ![] bcast_S_S1x262144x128 (id (constantI S_ 32 31#32))) (maxsi (broadcastInDim S1x262144x128 ![] bcast_S_S1x262144x128 (id (constantI S_ 32 0#32))) (fptosi 32 (Host.floor (mulf (Host.divf (broadcastInDim S1x262144x128 ![] bcast_S_S1x262144x128 (constant (F := Ideal) S_ .f32 0x3F800000#32)) (addf (broadcastInDim S1x262144x128 ![] bcast_S_S1x262144x128 (constant (F := Ideal) S_ .f32 0x3F800000#32)) (Host.exp (Host.negf (F := Ideal) (φ := .f32) a)))) (broadcastInDim S1x262144x128 ![] bcast_S_S1x262144x128 (constant (F := Ideal) S_ .f32 0x42000000#32)))))))

theorem flat_apply (n : Fin 262144) (f : Fin 128) :
    flat a (ix3 0 n f) = BitVec.ofNat 32 f.val * 32#32 + refBin (a (ix3 0 n f)) := by
  show featW (ix3 0 n f) + _ = _
  rw [featW_apply]
  refine congrArg _ ?_
  show IntOp.minsi 31#32 (IntOp.maxsi 0#32 (Ideal.fptosi 32 (Ideal.liftRound Int.floor (Ideal.div (Ideal.ofBits .f32 0x3F800000#32)
    (Ideal.ofBits .f32 0x3F800000#32 + Ideal.exp (-(a (ix3 0 n f)))) * Ideal.ofBits .f32 0x42000000#32)))) = _
  rw [Ideal.ofBits_one_f32, ofBits_32]
  rfl

/-- The bin as a number. -/
theorem refBin_lt (v : EReal) : (refBin v).toNat < 32 := HistI.clip_lt _

theorem flat_toNat (n : Fin 262144) (f : Fin 128) : (flat a (ix3 0 n f)).toNat = f.val * 32 + (refBin (a (ix3 0 n f))).toNat := by
  have h := refBin_lt (a (ix3 0 n f))
  have hf := f.isLt
  rw [flat_apply, BitVec.toNat_add, BitVec.toNat_mul, BitVec.toNat_ofNat]
  show (f.val % 4294967296 * 32 % 4294967296 + (refBin (a (ix3 0 n f))).toNat) % 4294967296 = _
  omega

theorem flat_small (n : Fin 262144) (f : Fin 128) : (flat a (ix3 0 n f)).toNat < 4096 := by
  have h := refBin_lt (a (ix3 0 n f))
  have hf := f.isLt
  rw [flat_toNat]
  omega

/-- A vector of words, those below zero moved up by `k`. -/
def wrapped (v : IVec S33554432 32) (k : BitVec 32) : IVec S33554432 32 :=
  select (cmpi .slt v (broadcastInDim S33554432 ![] bcast_S_S33554432 (constantI S_ 32 0#32))) (addi v (broadcastInDim S33554432 ![] bcast_S_S33554432 (constantI S_ 32 k))) v

theorem wrapped_apply (v : IVec S33554432 32) (k : BitVec 32) (e : Fin 33554432) (h : (v (ix1 e)).toNat < 2147483648) :
    wrapped v k (ix1 e) = v (ix1 e) := Routing.wrap_of_lt (v (ix1 e)) (v (ix1 e) + k) h

/-- The words of the first column: the batch of every float. -/
def batchV : IVec S33554432 32 :=
  shapeCast _ (broadcastInDim S1x262144x128 ![0, 1, 2] bcast_S1x1x1_S1x262144x128_0_1_2 (broadcastInDim S1x1x1 ![0] bcast_S1_S1x1x1_0 (iotaInDim S1 32 0))) shapeCasts_S1x262144x128_S33554432
/-- The words of the second. -/
def flatV : IVec S33554432 32 := shapeCast _ (flat a) shapeCasts_S1x262144x128_S33554432

theorem spread_const {α : Type} {s t : Shape} (dims : Fin s.rank → Fin t.rank) (h : s.BroadcastsInDim t dims) (x : s.Idx → α) (c : α)
    (hx : ∀ k, x k = c) (j : t.Idx) : broadcastInDim t dims h x j = c := by
  unfold broadcastInDim
  exact hx _

theorem cast_const {α : Type} {s t : Shape} (x : s.Idx → α) (h : s.ShapeCasts t) (c : α) (hx : ∀ k, x k = c) (j : t.Idx) :
    shapeCast t x h j = c := by
  unfold shapeCast
  exact hx _

theorem batchV_apply (j : S33554432.Idx) : batchV j = 0#32 :=
  cast_const _ _ _ (spread_const _ _ _ _ (spread_const _ _ _ _ fun x => congrArg (BitVec.ofNat 32) (Nat.lt_one_iff.1 (x 0).isLt))) j

theorem flatV_apply (e : Fin 33554432) :
    flatV a (ix1 e) = flat a (ix3 0 ⟨e.val / 128, by have := e.isLt; omega⟩ ⟨e.val % 128, by omega⟩) := by
  refine shapeCast_apply (flat a) _ _ _ ?_
  rw [Shape.rowMajor_val_three, Shape.rowMajor_val_one]
  show (0 * 262144 + e.val / 128) * 128 + e.val % 128 = e.val
  rw [Nat.zero_mul, Nat.zero_add]
  exact Nat.div_add_mod' _ _

/-- A vector as a column. -/
def col (v : IVec S33554432 32) : IVec S33554432x1 32 := broadcastInDim S33554432x1 ![0] bcast_S33554432_S33554432x1_0 v

theorem col_apply (v : IVec S33554432 32) (e : Fin 33554432) : col v (ix2 e 0) = v (ix1 e) := by
  refine broadcastInDim_apply _ _ _ _ (ix1 e) ?_
  intro q
  match q with
  | ⟨0, _⟩ =>
    have h : ¬ S33554432.size ⟨0, Nat.one_pos⟩ = 1 := by
      show ¬ (33554432 : ℕ) = 1
      norm_num
    exact (if_neg h).symm

section Columns
variable {α : Type} {N : ℕ} (x y : (⟨2, ![N, 1]⟩ : Shape).Idx → α)
  (h : Shape.Concatenates [(⟨2, ![N, 1]⟩ : Shape), ⟨2, ![N, 1]⟩] ⟨2, ![N, 2]⟩ 1) (e : Fin N)

theorem columns_zero : concatenate (⟨2, ![N, 2]⟩ : Shape) 1 [⟨⟨2, ![N, 1]⟩, x⟩, ⟨⟨2, ![N, 1]⟩, y⟩] h (ix2 e 0) = x (ix2 e 0) := by
  refine concatenate_pair_apply_left (t := ⟨2, ![N, 2]⟩) (1 : Fin 2) x y h (ix2 e 0) rfl (ix2 e 0) ?_
  intro q
  match q with
  | ⟨0, _⟩ => rfl
  | ⟨1, _⟩ => rfl

theorem columns_one : concatenate (⟨2, ![N, 2]⟩ : Shape) 1 [⟨⟨2, ![N, 1]⟩, x⟩, ⟨⟨2, ![N, 1]⟩, y⟩] h (ix2 e 1) = y (ix2 e 0) := by
  refine concatenate_pair_apply_right (t := ⟨2, ![N, 2]⟩) (1 : Fin 2) x y h (ix2 e 1) rfl rfl (ix2 e 0) ?_ rfl
  intro q
  match q with
  | ⟨0, _⟩ => exact fun _ => rfl
  | ⟨1, _⟩ => exact fun h => (h rfl).elim
end Columns

/-- The two words of every update. -/
def words : IVec S33554432x2 32 :=
  concatenate S33554432x2 1 [⟨S33554432x1, col (wrapped batchV 1#32)⟩, ⟨S33554432x1, col (wrapped (flatV a) 4096#32)⟩] concatenates_S33554432x1_S33554432x1_S33554432x2_d1

theorem words_zero (e : Fin 33554432) : words a (ix2 e 0) = 0#32 := by
  have h : (batchV (ix1 e)).toNat < 2147483648 := by
    rw [batchV_apply]
    exact (by norm_num : (0 : ℕ) < 2147483648)
  refine (columns_zero (col (wrapped batchV 1#32)) _ _ e).trans ?_
  rw [col_apply, wrapped_apply _ _ _ h, batchV_apply]

theorem words_one (e : Fin 33554432) :
    words a (ix2 e 1) = flat a (ix3 0 ⟨e.val / 128, by have := e.isLt; omega⟩ ⟨e.val % 128, by omega⟩) := by
  have h : (flatV a (ix1 e)).toNat < 2147483648 := by
    rw [flatV_apply]
    exact lt_trans (flat_small a _ _) (by norm_num)
  refine (columns_one _ (col (wrapped (flatV a) 4096#32)) _ e).trans ?_
  rw [col_apply, wrapped_apply _ _ _ h, flatV_apply]

/-! ## The count -/

/-- Update `e` lands at feature `f` and bin `b` when it is `f`'s float of a row whose bin there is `b`. -/
theorem lands_bin (e : Fin 33554432) (f : Fin 128) (b : Fin 32) (q : Fin 4096) (hq : q.val = f.val * 32 + b.val) :
    scatter_S1x4096_S33554432x2_S33554432_n_01_01_1.resultIdx? (ix1 e) (words a) = some (ix2 0 q)
      ↔ e.val % 128 = f.val ∧ InBin (rowsX a) f b.val (e.val / 128) := by
  have he := e.isLt
  have hb := b.isLt
  have hs := flat_small a ⟨e.val / 128, by omega⟩ ⟨e.val % 128, by omega⟩
  have ht := flat_toNat a ⟨e.val / 128, by omega⟩ ⟨e.val % 128, by omega⟩
  have hl := refBin_lt (a (ix3 0 ⟨e.val / 128, by omega⟩ ⟨e.val % 128, by omega⟩))
  have hrow : e.val % 128 = f.val → rowsX a (e.val / 128) f = a (ix3 0 ⟨e.val / 128, by omega⟩ ⟨e.val % 128, by omega⟩) := by
    intro h
    unfold rowsX
    have h1 : (⟨e.val / 128 % 262144, Nat.mod_lt _ (by decide)⟩ : Fin 262144) = ⟨e.val / 128, by omega⟩ := Fin.ext (by show e.val / 128 % 262144 = e.val / 128; omega)
    have h2 : f = ⟨e.val % 128, by omega⟩ := Fin.ext h.symm
    rw [h1, ← h2]
  refine (lands scatter_S1x4096_S33554432x2_S33554432_n_01_01_1 rfl rfl rfl (words a) e 0 q).trans ?_
  rw [words_zero, words_one, BitVec.toInt_eq_toNat_of_lt (x := flat a _) (by omega), ht, hq]
  constructor
  · rintro ⟨-, h⟩
    have h' : e.val % 128 * 32 + (refBin (a (ix3 0 ⟨e.val / 128, by omega⟩ ⟨e.val % 128, by omega⟩))).toNat = f.val * 32 + b.val := by exact_mod_cast h
    have hf : e.val % 128 = f.val := by omega
    refine ⟨hf, ?_⟩
    show (kerBin (rowsX a (e.val / 128) f)).toNat = b.val
    rw [hrow hf, bin_eq]
    omega
  · rintro ⟨hf, h⟩
    refine ⟨rfl, ?_⟩
    have h' : (kerBin (rowsX a (e.val / 128) f)).toNat = b.val := h
    rw [hrow hf, bin_eq] at h'
    show ((e.val % 128 * 32 + (refBin _).toNat : ℕ) : ℤ) = _
    rw [h', hf]

/-- The updates that land at feature `f` and bin `b` are as many as the rows whose bin there is `b`. -/
theorem card_lands (f : Fin 128) (b : Fin 32) (q : Fin 4096) (hq : q.val = f.val * 32 + b.val) :
    (Finset.univ.filter fun j => scatter_S1x4096_S33554432x2_S33554432_n_01_01_1.resultIdx? j (words a) = some (ix2 0 q)).card
      = Nat.count (InBin (rowsX a) f b.val) 262144 := by
  have hf := f.isLt
  rw [Nat.count_eq_card_filter_range]
  symm
  refine Finset.card_bij (fun n hn => ix1 ⟨n * 128 + f.val, by
    have := Finset.mem_range.1 (Finset.mem_filter.1 hn).1; omega⟩) ?_ ?_ ?_
  · intro n hn
    refine Finset.mem_filter.2 ⟨Finset.mem_univ _, (lands_bin a _ f b q hq).2 ⟨?_, ?_⟩⟩
    · show (n * 128 + f.val) % 128 = f.val
      omega
    · have e : (n * 128 + f.val) / 128 = n := by omega
      show InBin (rowsX a) f b.val ((n * 128 + f.val) / 128)
      rw [e]
      exact (Finset.mem_filter.1 hn).2
  · intro n _ k _ h
    have h' : n * 128 + f.val = k * 128 + f.val := congrArg (fun j : S33554432.Idx => (j 0).val) h
    omega
  · intro j hj
    obtain ⟨e, rfl⟩ : ∃ e : Fin 33554432, j = ix1 e := ⟨j 0, funext fun | ⟨0, _⟩ => rfl⟩
    have he := e.isLt
    obtain ⟨h1, h2⟩ := (lands_bin a e f b q hq).1 (Finset.mem_filter.1 hj).2
    refine ⟨e.val / 128, Finset.mem_filter.2 ⟨Finset.mem_range.2 (by omega), h2⟩, congrArg ix1 (Fin.ext ?_)⟩
    show e.val / 128 * 128 + f.val = e.val
    omega

/-- The table of counts. -/
def hist : S1x4096.Idx → EReal :=
  Host.scatterAdd (F := Ideal) (φ := .f32) scatter_S1x4096_S33554432x2_S33554432_n_01_01_1 (broadcastInDim S1x4096 ![] bcast_S_S1x4096 (constant (F := Ideal) S_ .f32 0x00000000#32)) (words a)
    (broadcastInDim S33554432 ![] bcast_S_S33554432 (constant (F := Ideal) S_ .f32 0x3F800000#32))

theorem scatter_ones {s si u : Shape} {w : ℕ} (d : ScatterDims s si u) (z : s.Idx → EReal) (idx : IVec si w) (o : u.Idx → EReal) (i : s.Idx)
    (hz : z i = 0) (ho : ∀ j, o j = 1) :
    Host.scatterAdd (F := Ideal) (φ := .f32) d z idx o i = (((Finset.univ.filter fun j => d.resultIdx? j idx = some i).card : ℕ) : EReal) := by
  show z i + ∑ j ∈ Finset.univ.filter (fun j => d.resultIdx? j idx = some i), o j = _
  rw [hz, zero_add, Finset.sum_congr rfl fun j _ => ho j, Finset.sum_const, nsmul_one]

theorem hist_apply (f : Fin 128) (b : Fin 32) (q : Fin 4096) (hq : q.val = f.val * 32 + b.val) :
    hist a (ix2 0 q) = ((Nat.count (InBin (rowsX a) f b.val) 262144 : ℕ) : EReal) := by
  rw [← card_lands a f b q hq]
  unfold hist
  exact scatter_ones _ _ _ _ _ (spread_const _ _ _ _ (fun _ => Ideal.ofBits_zero_f32) _)
    (spread_const _ _ _ _ fun _ => Ideal.ofBits_one_f32)

/-- The reference's result. -/
def res : S128x32.Idx → EReal :=
  shapeCast _ (Host.divf (F := Ideal) (φ := .f32) (shapeCast _ (hist a) shapeCasts_S1x4096_S1x128x32) (broadcastInDim S1x128x32 ![] bcast_S_S1x128x32 (constant (F := Ideal) S_ .f32 0x48800000#32))) shapeCasts_S1x128x32_S128x32

theorem res_apply (f : Fin 128) (b : Fin 32) :
    res a (ix2 f b) = ((Nat.count (InBin (rowsX a) f b.val) 262144 : ℕ) : EReal) * (((1 : ℝ) / 262144 : ℝ) : EReal) := by
  have hf := f.isLt
  have hb := b.isLt
  have e1 : (S1x128x32.rowMajor (ix3 0 f b)).val = (S128x32.rowMajor (ix2 f b)).val := by
    rw [Shape.rowMajor_val_three, Shape.rowMajor_val_two]
    show (0 * 128 + f.val) * 32 + b.val = f.val * 32 + b.val
    rw [Nat.zero_mul, Nat.zero_add]
  have e2 : (S1x4096.rowMajor (ix2 0 (⟨f.val * 32 + b.val, by omega⟩ : Fin 4096))).val = (S1x128x32.rowMajor (ix3 0 f b)).val := by
    rw [Shape.rowMajor_val_three, Shape.rowMajor_val_two]
    show 0 * 4096 + (f.val * 32 + b.val) = (0 * 128 + f.val) * 32 + b.val
    omega
  refine (shapeCast_apply _ shapeCasts_S1x128x32_S128x32 (ix2 f b) (ix3 0 f b) e1).trans ?_
  have h1 := (shapeCast_apply (hist a) shapeCasts_S1x4096_S1x128x32 (ix3 0 f b) _ e2).trans (hist_apply a f b _ rfl)
  have h2 : broadcastInDim S1x128x32 ![] bcast_S_S1x128x32 (constant (F := Ideal) S_ .f32 0x48800000#32) (ix3 0 f b) = ((262144 : ℝ) : EReal) :=
    spread_const _ _ _ _ (fun _ => ofBits_rows) _
  refine (congrArg₂ Ideal.div h1 h2).trans ?_
  generalize Nat.count (InBin (rowsX a) f b.val) 262144 = n
  rw [← EReal.coe_natCast, div_coe _ _ (by norm_num), ← EReal.coe_mul, div_eq_mul_one_div]

theorem res_eq (m : (ℓ : Loc nD τ sig) → Buf (Elt Ideal) ℓ) (c : Dev nD) :
    Value.res_main_v41 (F := Ideal) m c = res (m ((c.tc : Thread nD τ).loc main_arg0)) := by
  unfold Value.res_main_v41 res hist words flatV flat featW batchV wrapped col
  rfl

end Cert.Proof.Sum

end
-- ==== Proof.Algebraic.lean ====
/-
  The two programs leave one result over the extended reals.
-/
module

public import proofs.«01_k».proof.Proof.Sum.Ker
public import proofs.«01_k».proof.Proof.Sum.Ref

@[expose] public section

noncomputable section

namespace Cert.Proof

open Idealize.ShloMosaic Idealize.SL.Sem

/-- One input, one result. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (h : m' ((c.tc : Thread Cert.ReferenceIdeal.nD Cert.ReferenceIdeal.τ).loc Cert.ReferenceIdeal.main_arg0) = m (HistI.aLoc c)) :
    Cert.ReferenceIdeal.Value.res_main_v41 (F := Ideal) m' c = Cert.KernelIdeal.Gen.k1_pay1 (F := Ideal) (HistI.ym m c) := by
  refine (Sum.res_eq m' c).trans ?_
  funext j
  obtain ⟨f, b, rfl⟩ : ∃ (f : Fin 128) (b : Fin 32), j = ix2 f b := ⟨j 0, j 1, funext fun | ⟨0, _⟩ => rfl | ⟨1, _⟩ => rfl⟩
  refine (congrArg (fun a => Sum.res a (ix2 f b)) h).trans ?_
  exact (Sum.res_apply (m (HistI.aLoc c)) f b).trans (Sum.ker_apply m c f b).symm

theorem algebraic : Cert.algebraic_KernelIdeal_ReferenceIdeal (hKernelIdeal := Cert.KernelIdeal.Gen.facts)
    (hReferenceIdeal := Cert.ReferenceIdeal.Gen.facts) := by
  intro m g m' g' _ hin
  refine ⟨fun c => Cert.KernelIdeal.Gen.k1_pay1 (F := Ideal) (HistI.ym m c), ?_, ?_⟩
  · exact (θ_run _ _ _).mono (fun _ h c => ⟨(h.1 c).2, (h.1 c).1⟩) (HistI.run_main m g)
  · exact (θ_run _ _ _).mono (fun _ h c => ⟨(h c).1.trans (results_eq m m' c (hin c)), (h c).2⟩) (Cert.ReferenceIdeal.Value.run m' g')

end Cert.Proof

end
-- ==== Proof.lean ====
/-
  The proof of `Cert.Claim`: the frames of the two readings of the program and of the reference (Proof/Frames.lean), and the equality of the
  results over the extended reals (Proof/Algebraic.lean).
-/
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import Idealize.ShloMosaic.Adequacy
public import Idealize.ShloMosaic.Init
public import proofs.«01_k».proof.Proof.Frames
public import proofs.«01_k».proof.Proof.Algebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, frame_p, frame_pi, frame_ri, True.intro, algebraic⟩

end Cert.Proof

end
